-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_groups_full [hPre_groups_full : Cert.Pre_groups_full.Facts] (m : (ℓ : Loc Cert.KernelIdeal.nD Cert.KernelIdeal.τ Cert.KernelIdeal.sig) → Buf (Elt Ideal) ℓ) : Prop :=
  ∀ c : Dev Cert.KernelIdeal.nD,
    (Cert.Pre_groups_full.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_groups_full [hPre_groups_full : Cert.Pre_groups_full.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_groups_full.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_KernelIdeal_pre_groups_full [hKernelIdeal : Cert.KernelIdeal.Facts] [hPre_groups_full : Cert.Pre_groups_full.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_groups_full m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_ReferenceIdeal_pre_groups_full [hReferenceIdeal : Cert.ReferenceIdeal.Facts] [hPre_groups_full : Cert.Pre_groups_full.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_groups_full m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  IdealRules.named_const.Statement Cert.KernelIdeal.κ "big" .f32 0x7F61B1E6#32 ⊤

def algebraic_KernelIdeal_ReferenceIdeal_pre_groups_full [hKernelIdeal : Cert.KernelIdeal.Facts] [hReferenceIdeal : Cert.ReferenceIdeal.Facts] [hPre_groups_full : Cert.Pre_groups_full.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_groups_full m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_groups_full : Cert.Pre_groups_full.Facts),
    quiescent_Kernel (hKernel := hKernel)
    ∧ quiescent_KernelIdeal (hKernelIdeal := hKernelIdeal)
    ∧ quiescent_KernelIdeal_pre_groups_full (hKernelIdeal := hKernelIdeal) (hPre_groups_full := hPre_groups_full)
    ∧ quiescent_ReferenceIdeal (hReferenceIdeal := hReferenceIdeal)
    ∧ quiescent_ReferenceIdeal_pre_groups_full (hReferenceIdeal := hReferenceIdeal) (hPre_groups_full := hPre_groups_full)
    ∧ preserves_Kernel_KernelIdeal
    ∧ algebraic_KernelIdeal_ReferenceIdeal_pre_groups_full (hKernelIdeal := hKernelIdeal) (hReferenceIdeal := hReferenceIdeal) (hPre_groups_full := hPre_groups_full)
-- ==== Pre_groups_full.lean ====
abbrev S8192x14 : Shape := ⟨2, ![8192, 14]⟩
abbrev S8192 : Shape := ⟨1, ![8192]⟩
abbrev S28x64 : Shape := ⟨2, ![28, 64]⟩
abbrev S64 : Shape := ⟨1, ![64]⟩
abbrev S64x64 : Shape := ⟨2, ![64, 64]⟩
abbrev S128x64 : Shape := ⟨2, ![128, 64]⟩
abbrev S192x1024 : Shape := ⟨2, ![192, 1024]⟩
abbrev S1024 : Shape := ⟨1, ![1024]⟩
abbrev S1024x256 : Shape := ⟨2, ![1024, 256]⟩
abbrev S256 : Shape := ⟨1, ![256]⟩
abbrev S256x128 : Shape := ⟨2, ![256, 128]⟩
abbrev S128 : Shape := ⟨1, ![128]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩

class Facts : Prop where
  bcast_S_S8192x14 : S_.BroadcastsInDim S8192x14 (![] : Fin 0 → Fin S8192x14.rank)
  reducesTo_S8192x14_S_d0_1 : S8192x14.ReducesTo [0, 1] S_
  h_S_ : 0 < S_.numel
  bcast_S_S28x64 : S_.BroadcastsInDim S28x64 (![] : Fin 0 → Fin S28x64.rank)
  reducesTo_S28x64_S_d0_1 : S28x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  natLt_1_32 : 1 < 32
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part3 {F : FTy → Type} [FloatOps F] (main_v43 : IVec S_ 1) (main_v50 : IVec S8192 32) (main_v51 : IVec S8192 32) : IVec S_ 1 :=
  let main_v52 : IVec S8192 1 := cmpi .sge main_v50 main_v51
  let main_c_18 : IVec S_ 1 := constantI S_ 1 1#1
  let main_v53 : IVec S_ 1 := (fun x v => Host.reduce IntOp.andi x v reducesTo_S8192_S_d0 h_S_) main_v52 main_c_18
  let main_v54 : IVec S_ 1 := andi main_v43 main_v53
  main_v54

def fn_part2 {F : FTy → Type} [FloatOps F] (main_arg1 : IVec S8192 32) (main_arg8 : FVec F S64x64 .f32) (main_arg9 : FVec F S64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : IVec S8192x1 32 := broadcastInDim S8192x1 ![0] bcast_S8192_S8192x1_0 main_arg1
  let main_v45 : IVec S1x8192 32 := broadcastInDim S1x8192 ![1] bcast_S8192_S1x8192_1 main_arg1
  let main_v46 : IVec S8192x8192 32 := broadcastInDim S8192x8192 ![0, 1] bcast_S8192x1_S8192x8192_0_1 main_v44
  let main_v47 : IVec S8192x8192 32 := broadcastInDim S8192x8192 ![0, 1] bcast_S1x8192_S8192x8192_0_1 main_v45
  let main_v48 : IVec S8192x8192 1 := cmpi .eq main_v46 main_v47
  let main_v49 : IVec S8192x8192 32 := (extui 32 · natLt_1_32) main_v48
  let main_c_16 : IVec S_ 32 := constantI S_ 32 0#32
  let main_v50 : IVec S8192 32 := (fun x v => Host.reduce IntOp.addi x v reducesTo_S8192x8192_S8192_d1 h_S_) main_v49 main_c_16
  let main_c_17 : IVec S_ 32 := constantI S_ 32 30#32
  let main_v51 : IVec S8192 32 := broadcastInDim S8192 ![] bcast_S_S8192 main_c_17
  fn_part3 (F := F) main_v43 main_v50 main_v51

def fn_part1 {F : FTy → Type} [FloatOps F] (main_arg1 : IVec S8192 32) (main_arg5 : FVec F S64 .f32) (main_arg6 : FVec F S128x64 .f32) (main_arg7 : FVec F S64 .f32) (main_arg8 : FVec F S64x64 .f32) (main_arg9 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg8 main_arg9 main_v33

def fn {F : FTy → Type} [FloatOps F] (main_arg0 : FVec F S8192x14 .f32) (main_arg1 : IVec S8192 32) (main_arg2 : FVec F S28x64 .f32) (main_arg3 : FVec F S64 .f32) (main_arg4 : FVec F S64x64 .f32) (main_arg5 : FVec F S64 .f32) (main_arg6 : FVec F S128x64 .f32) (main_arg7 : FVec F S64 .f32) (main_arg8 : FVec F S64x64 .f32) (main_arg9 : FVec F S64 .f32) (main_arg10 : FVec F S128x64 .f32) (main_arg11 : FVec F S64 .f32) (main_arg12 : FVec F S64x64 .f32) (main_arg13 : FVec F S64 .f32) (main_arg14 : FVec F S192x1024 .f32) (main_arg15 : FVec F S1024 .f32) (main_arg16 : FVec F S1024x256 .f32) (main_arg17 : FVec F S256 .f32) (main_arg18 : FVec F S256x128 .f32) (main_arg19 : FVec F S128 .f32) (main_arg20 : FVec F S128x64 .f32) (main_arg21 : FVec F S64 .f32) : IVec S_ 1 :=
  let main_v0 : FVec F S8192x14 .f32 := Host.absf main_arg0
  let main_cst : FVec F S_ .f32 := constant S_ .f32 0x7F800000#32
  let main_v1 : FVec F S8192x14 .f32 := broadcastInDim S8192x14 ![] bcast_S_S8192x14 main_cst
  let main_v2 : IVec S8192x14 1 := cmpf .olt main_v0 main_v1
  let main_c : IVec S_ 1 := constantI S_ 1 1#1
  let main_v3 : IVec S_ 1 := (fun x v => Host.reduce IntOp.andi x v reducesTo_S8192x14_S_d0_1 h_S_) main_v2 main_c
  let main_v4 : FVec F S28x64 .f32 := Host.absf main_arg2
  let main_cst_0 : FVec F S_ .f32 := constant S_ .f32 0x7F800000#32
  let main_v5 : FVec F S28x64 .f32 := broadcastInDim S28x64 ![] bcast_S_S28x64 main_cst_0
  let main_v6 : IVec S28x64 1 := cmpf .olt main_v4 main_v5
  let main_c_1 : IVec S_ 1 := constantI S_ 1 1#1
  let main_v7 : IVec S_ 1 := (fun x v => Host.reduce IntOp.andi x v reducesTo_S28x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg5 main_arg6 main_arg7 main_arg8 main_arg9 main_v13 main_v16
-- ==== Kernel.lean ====
abbrev S8192x14 : Shape := ⟨2, ![8192, 14]⟩
abbrev S8192 : Shape := ⟨1, ![8192]⟩
abbrev S28x64 : Shape := ⟨2, ![28, 64]⟩
abbrev S64 : Shape := ⟨1, ![64]⟩
abbrev S64x64 : Shape := ⟨2, ![64, 64]⟩
abbrev S128x64 : Shape := ⟨2, ![128, 64]⟩
abbrev S192x1024 : Shape := ⟨2, ![192, 1024]⟩
abbrev S1024 : Shape := ⟨1, ![1024]⟩
abbrev S1024x256 : Shape := ⟨2, ![1024, 256]⟩
abbrev S256 : Shape := ⟨1, ![256]⟩
abbrev S256x128 : Shape := ⟨2, ![256, 128]⟩
abbrev S128 : Shape := ⟨1, ![128]⟩
abbrev S8192x1 : Shape := ⟨2, ![8192, 1]⟩
abbrev S1x8192 : Shape := ⟨2, ![1, 8192]⟩
abbrev S1x64 : Shape := ⟨2, ![1, 64]⟩
abbrev S8192x64 : Shape := ⟨2, ![8192, 64]⟩
abbrev S64x1024 : Shape := ⟨2, ![64, 1024]⟩
abbrev S1x1024 : Shape := ⟨2, ![1, 1024]⟩
abbrev S1x256 : Shape := ⟨2, ![1, 256]⟩
abbrev S1x128 : Shape := ⟨2, ![1, 128]⟩
abbrev S256x14 : Shape := ⟨2, ![256, 14]⟩
abbrev S256x1 : Shape := ⟨2, ![256, 1]⟩
abbrev S256x64 : Shape := ⟨2, ![256, 64]⟩
abbrev S256x8192 : Shape := ⟨2, ![256, 8192]⟩
abbrev S1x14 : Shape := ⟨2, ![1, 14]⟩
abbrev S256x28 : Shape := ⟨2, ![256, 28]⟩
abbrev S256x1024 : Shape := ⟨2, ![256, 1024]⟩
abbrev S256x256 : Shape := ⟨2, ![256, 256]⟩

abbrev nBuf : Space → Nat
  | .hbm => 42
  | .vmem => 54
  | .smem => 0
  | _ => 0

abbrev bufTy : (tb : Table) → Fin (tcTables nBuf tb) → BufTy
  | .hbm, ⟨0, _⟩ => ⟨S8192x14, .f32⟩
  | .hbm, ⟨1, _⟩ => ⟨S8192, .i32⟩
  | .hbm, ⟨2, _⟩ => ⟨S28x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S128x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S192x1024, .f32⟩
  | .hbm, ⟨15, _⟩ => ⟨S1024, .f32⟩
  | .hbm, ⟨16, _⟩ => ⟨S1024x256, .f32⟩
  | .hbm, ⟨17, _⟩ => ⟨S256, .f32⟩
  | .hbm, ⟨18, _⟩ => ⟨S256x128, .f32⟩
  | .hbm, ⟨19, _⟩ => ⟨S128, .f32⟩
  | .hbm, ⟨20, _⟩ => ⟨S128x64, .f32⟩
  | .hbm, ⟨21, _⟩ => ⟨S64, .f32⟩
  | .hbm, ⟨22, _⟩ => ⟨S8192, .f32⟩
  | .hbm, ⟨23, _⟩ => ⟨S8192x1, .f32⟩
  | .hbm, ⟨24, _⟩ => ⟨S1x8192, .f32⟩
  | .hbm, ⟨25, _⟩ => ⟨S1x64, .f32⟩
  | .hbm, ⟨26, _⟩ => ⟨S1x64, .f32⟩
  | .hbm, ⟨27, _⟩ => ⟨S8192x64, .f32⟩
  | .hbm, ⟨28, _⟩ => ⟨S1x64, .f32⟩
  | .hbm, ⟨29, _⟩ => ⟨S1x64, .f32⟩
  | .hbm, ⟨30, _⟩ => ⟨S8192x64, .f32⟩
  | .hbm, ⟨31, _⟩ => ⟨S1x64, .f32⟩
  | .hbm, ⟨32, _⟩ => ⟨S1x64, .f32⟩
  | .hbm, ⟨33, _⟩ => ⟨S8192x64, .f32⟩
  | .hbm, ⟨34, _⟩ => ⟨S64x1024, .f32⟩
  | .hbm, ⟨35, _⟩ => ⟨S64x1024, .f32⟩
  | .hbm, ⟨36, _⟩ => ⟨S64x1024, .f32⟩
  | .hbm, ⟨37, _⟩ => ⟨S1x1024, .f32⟩
  | .hbm, ⟨38, _⟩ => ⟨S1x256, .f32⟩
  | .hbm, ⟨39, _⟩ => ⟨S1x128, .f32⟩
  | .hbm, ⟨40, _⟩ => ⟨S1x64, .f32⟩
  | .hbm, ⟨41, _⟩ => ⟨S8192x64, .f32⟩
  | .local _ .vmem, ⟨0, _⟩ => ⟨S256x14, .f32⟩
  | .local _ .vmem, ⟨1, _⟩ => ⟨S256x14, .f32⟩
  | .local _ .vmem, ⟨2, _⟩ => ⟨S8192x14, .f32⟩
  | .local _ .vmem, ⟨3, _⟩ => ⟨S256x1, .f32⟩
  | .local _ .vmem, ⟨4, _⟩ => ⟨S256x1, .f32⟩
  | .local _ .vmem, ⟨5, _⟩ => ⟨S1x8192, .f32⟩
  | .local _ .vmem, ⟨6, _⟩ => ⟨S28x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S256x64, .f32⟩
  | .local _ .vmem, ⟨11, _⟩ => ⟨S256x64, .f32⟩
  | .local _ .vmem, ⟨12, _⟩ => ⟨S256x64, .f32⟩
  | .local _ .vmem, ⟨13, _⟩ => ⟨S256x64, .f32⟩
  | .local _ .vmem, ⟨14, _⟩ => ⟨S8192x64, .f32⟩
  | .local _ .vmem, ⟨15, _⟩ => ⟨S256x1, .f32⟩
  | .local _ .vmem, ⟨16, _⟩ => ⟨S256x1, .f32⟩
  | .local _ .vmem, ⟨17, _⟩ => ⟨S1x8192, .f32⟩
  | .local _ .vmem, ⟨18, _⟩ => ⟨S128x64, .f32⟩
  | .local _ .vmem, ⟨19, _⟩ => ⟨S1x64, .f32⟩
  | .local _ .vmem, ⟨20, _⟩ => ⟨S64x64, .f32⟩
  | .local _ .vmem, ⟨21, _⟩ => ⟨S1x64, .f32⟩
  | .local _ .vmem, ⟨22, _⟩ => ⟨S256x64, .f32⟩
  | .local _ .vmem, ⟨23, _⟩ => ⟨S256x64, .f32⟩
  | .local _ .vmem, ⟨24, _⟩ => ⟨S256x64, .f32⟩
  | .local _ .vmem, ⟨25, _⟩ => ⟨S256x64, .f32⟩
  | .local _ .vmem, ⟨26, _⟩ => ⟨S8192x64, .f32⟩
  | .local _ .vmem, ⟨27, _⟩ => ⟨S256x1, .f32⟩
  | .local _ .vmem, ⟨28, _⟩ => ⟨S256x1, .f32⟩
  | .local _ .vmem, ⟨29, _⟩ => ⟨S1x8192, .f32⟩
  | .local _ .vmem, ⟨30, _⟩ => ⟨S128x64, .f32⟩
  | .local _ .vmem, ⟨31, _⟩ => ⟨S1x64, .f32⟩
  | .local _ .vmem, ⟨32, _⟩ => ⟨S64x64, .f32⟩
  | .local _ .vmem, ⟨33, _⟩ => ⟨S1x64, .f32⟩
  | .local _ .vmem, ⟨34, _⟩ => ⟨S256x64, .f32⟩
  | .local _ .vmem, ⟨35, _⟩ => ⟨S256x64, .f32⟩
  | .local _ .vmem, ⟨36, _⟩ => ⟨S256x64, .f32⟩
  | .local _ .vmem, ⟨37, _⟩ => ⟨S256x64, .f32⟩
  | .local _ .vmem, ⟨38, _⟩ => ⟨S256x64, .f32⟩
  | .local _ .vmem, ⟨39, _⟩ => ⟨S256x64, .f32⟩
  | .local _ .vmem, ⟨40, _⟩ => ⟨S256x64, .f32⟩
  | .local _ .vmem, ⟨41, _⟩ => ⟨S256x64, .f32⟩
  | .local _ .vmem, ⟨42, _⟩ => ⟨S64x1024, .f32⟩
  | .local _ .vmem, ⟨43, _⟩ => ⟨S64x1024, .f32⟩
  | .local _ .vmem, ⟨44, _⟩ => ⟨S64x1024, .f32⟩
  | .local _ .vmem, ⟨45, _⟩ => ⟨S1x1024, .f32⟩
  | .local _ .vmem, ⟨46, _⟩ => ⟨S1024x256, .f32⟩
  | .local _ .vmem, ⟨47, _⟩ => ⟨S1x256, .f32⟩
  | .local _ .vmem, ⟨48, _⟩ => ⟨S256x128, .f32⟩
  | .local _ .vmem, ⟨49, _⟩ => ⟨S1x128, .f32⟩
  | .local _ .vmem, ⟨50, _⟩ => ⟨S128x64, .f32⟩
  | .local _ .vmem, ⟨51, _⟩ => ⟨S1x64, .f32⟩
  | .local _ .vmem, ⟨52, _⟩ => ⟨S256x64, .f32⟩
  | .local _ .vmem, ⟨53, _⟩ => ⟨S256x64, .f32⟩
  | _, _ => ⟨S8192x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_v15 : Ref sig .tc := ⟨.hbm, 37, rfl⟩
abbrev main_call0_v16 : Ref sig .tc := ⟨.hbm, 38, rfl⟩
abbrev main_call0_v17 : Ref sig .tc := ⟨.hbm, 39, rfl⟩
abbrev main_call0_v18 : Ref sig .tc := ⟨.hbm, 40, rfl⟩
abbrev main_v0 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg8_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg4_0 : Ref sig .tc := ⟨.vmem, 43, rfl⟩
abbrev cc3_stg5_0 : Ref sig .tc := ⟨.vmem, 44, rfl⟩
abbrev cc3_stg6_0 : Ref sig .tc := ⟨.vmem, 45, rfl⟩
abbrev cc3_stg7_0 : Ref sig .tc := ⟨.vmem, 46, rfl⟩
abbrev cc3_stg8_0 : Ref sig .tc := ⟨.vmem, 47, rfl⟩
abbrev cc3_stg9_0 : Ref sig .tc := ⟨.vmem, 48, rfl⟩
abbrev cc3_stg10_0 : Ref sig .tc := ⟨.vmem, 49, rfl⟩
abbrev cc3_stg11_0 : Ref sig .tc := ⟨.vmem, 50, rfl⟩
abbrev cc3_stg12_0 : Ref sig .tc := ⟨.vmem, 51, rfl⟩
abbrev cc3_stg13_0 : Ref sig .tc := ⟨.vmem, 52, rfl⟩
abbrev cc3_stg13_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem8_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev cc3_sem4_0 : DmaSem sig := 43
abbrev cc3_sem5_0 : DmaSem sig := 44
abbrev cc3_sem6_0 : DmaSem sig := 45
abbrev cc3_sem7_0 : DmaSem sig := 46
abbrev cc3_sem8_0 : DmaSem sig := 47
abbrev cc3_sem9_0 : DmaSem sig := 48
abbrev cc3_sem10_0 : DmaSem sig := 49
abbrev cc3_sem11_0 : DmaSem sig := 50
abbrev cc3_sem12_0 : DmaSem sig := 51
abbrev cc3_sem13_0 : DmaSem sig := 52
abbrev cc3_sem13_1 : DmaSem sig := 53

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x14 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x14 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S28x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x8192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x8192 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S256x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1024 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1024x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x256 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S256x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S128x64 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x64 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 2 → Memref sig .tc .vmem S256x64 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true]
-- ==== KernelIdeal.lean ====
variable {F : FTy → Type} [FloatOps F] [Named F]
def κ : String → Option EReal := fun
  | "big" => some ⊤
  | _ => none
-- ==== ReferenceIdeal.lean ====
abbrev S8192x14 : Shape := ⟨2, ![8192, 14]⟩
abbrev S8192 : Shape := ⟨1, ![8192]⟩
abbrev S28x64 : Shape := ⟨2, ![28, 64]⟩
abbrev S64 : Shape := ⟨1, ![64]⟩
abbrev S64x64 : Shape := ⟨2, ![64, 64]⟩
abbrev S128x64 : Shape := ⟨2, ![128, 64]⟩
abbrev S192x1024 : Shape := ⟨2, ![192, 1024]⟩
abbrev S1024 : Shape := ⟨1, ![1024]⟩
abbrev S1024x256 : Shape := ⟨2, ![1024, 256]⟩
abbrev S256 : Shape := ⟨1, ![256]⟩
abbrev S256x128 : Shape := ⟨2, ![256, 128]⟩
abbrev S128 : Shape := ⟨1, ![128]⟩
abbrev S_ : Shape := ⟨0, ![]⟩
abbrev S8192x1 : Shape := ⟨2, ![8192, 1]⟩
abbrev S14x8192 : Shape := ⟨2, ![14, 8192]⟩
abbrev S8192x8192 : Shape := ⟨2, ![8192, 8192]⟩
abbrev S1x8192 : Shape := ⟨2, ![1, 8192]⟩
abbrev S8192x30 : Shape := ⟨2, ![8192, 30]⟩
abbrev S8192x30x1 : Shape := ⟨3, ![8192, 30, 1]⟩
abbrev S1 : Shape := ⟨1, ![1]⟩
abbrev S1x1x1 : Shape := ⟨3, ![1, 1, 1]⟩
abbrev S8192x30x14 : Shape := ⟨3, ![8192, 30, 14]⟩
abbrev S8192x1x14 : Shape := ⟨3, ![8192, 1, 14]⟩
abbrev S8192x30x28 : Shape := ⟨3, ![8192, 30, 28]⟩
abbrev S8192x30x64 : Shape := ⟨3, ![8192, 30, 64]⟩
abbrev S1x1x64 : Shape := ⟨3, ![1, 1, 64]⟩
abbrev S8192x64 : Shape := ⟨2, ![8192, 64]⟩
abbrev S64x8192 : Shape := ⟨2, ![64, 8192]⟩
abbrev S8192x1x64 : Shape := ⟨3, ![8192, 1, 64]⟩
abbrev S8192x30x128 : Shape := ⟨3, ![8192, 30, 128]⟩
abbrev S8192x192 : Shape := ⟨2, ![8192, 192]⟩
abbrev S8192x1024 : Shape := ⟨2, ![8192, 1024]⟩
abbrev S1x1024 : Shape := ⟨2, ![1, 1024]⟩
abbrev S8192x256 : Shape := ⟨2, ![8192, 256]⟩
abbrev S1x256 : Shape := ⟨2, ![1, 256]⟩
abbrev S8192x128 : Shape := ⟨2, ![8192, 128]⟩
abbrev S1x128 : Shape := ⟨2, ![1, 128]⟩
abbrev S1x64 : Shape := ⟨2, ![1, 64]⟩

abbrev nBuf : Space → Nat
  | .hbm => 255
  | .vmem => 0
  | .smem => 0
  | _ => 0

abbrev hbmTy0_0 (i : Nat) : BufTy := match i % 128 with
  | 0 => ⟨S8192x14, .f32⟩
  | 1 => ⟨S8192, .i32⟩
  | 2 => ⟨S28x64, .f32⟩
  | 3 => ⟨S64, .f32⟩
  | 4 => ⟨S64x64, .f32⟩
  | 5 => ⟨S64, .f32⟩
  | 6 => ⟨S128x64, .f32⟩
  | 7 => ⟨S64, .f32⟩
  | 8 => ⟨S64x64, .f32⟩
  | 9 => ⟨S64, .f32⟩
  | 10 => ⟨S128x64, .f32⟩
  | 11 => ⟨S64, .f32⟩
  | 12 => ⟨S64x64, .f32⟩
  | 13 => ⟨S64, .f32⟩
  | 14 => ⟨S192x1024, .f32⟩
  | 15 => ⟨S1024, .f32⟩
  | 16 => ⟨S1024x256, .f32⟩
  | 17 => ⟨S256, .f32⟩
  | 18 => ⟨S256x128, .f32⟩
  | 19 => ⟨S128, .f32⟩
  | 20 => ⟨S128x64, .f32⟩
  | 21 => ⟨S64, .f32⟩
  | 22 => ⟨S8192x14, .f32⟩
  | 23 => ⟨S_, .f32⟩
  | 24 => ⟨S8192, .f32⟩
  | 25 => ⟨S8192x1, .f32⟩
  | 26 => ⟨S14x8192, .f32⟩
  | 27 => ⟨S8192x8192, .f32⟩
  | 28 => ⟨S_, .f32⟩
  | 29 => ⟨S8192x8192, .f32⟩
  | 30 => ⟨S8192x8192, .f32⟩
  | 31 => ⟨S8192x8192, .f32⟩
  | 32 => ⟨S8192x8192, .f32⟩
  | 33 => ⟨S1x8192, .f32⟩
  | 34 => ⟨S8192x8192, .f32⟩
  | 35 => ⟨S8192x8192, .f32⟩
  | 36 => ⟨S8192x1, .i32⟩
  | 37 => ⟨S1x8192, .i32⟩
  | 38 => ⟨S8192x8192, .i32⟩
  | 39 => ⟨S8192x8192, .i32⟩
  | 40 => ⟨S8192x8192, .i1⟩
  | 41 => ⟨S_, .f32⟩
  | 42 => ⟨S_, .f32⟩
  | 43 => ⟨S8192x8192, .f32⟩
  | 44 => ⟨S8192x8192, .f32⟩
  | 45 => ⟨S8192x8192, .f32⟩
  | 46 => ⟨S8192x30, .f32⟩
  | 47 => ⟨S8192x30, .i32⟩
  | 48 => ⟨S_, .i32⟩
  | 49 => ⟨S8192x30, .i32⟩
  | 50 => ⟨S8192x30, .i1⟩
  | 51 => ⟨S_, .i32⟩
  | 52 => ⟨S8192x30, .i32⟩
  | 53 => ⟨S8192x30, .i32⟩
  | 54 => ⟨S8192x30, .i32⟩
  | 55 => ⟨S8192x30x1, .i32⟩
  | 56 => ⟨S1, .i32⟩
  | 57 => ⟨S_, .i32⟩
  | 58 => ⟨S8192x30x1, .i32⟩
  | 59 => ⟨S8192x30x1, .i1⟩
  | 60 => ⟨S1x1x1, .i32⟩
  | 61 => ⟨S8192x30x1, .i32⟩
  | 62 => ⟨S8192x30x1, .i1⟩
  | 63 => ⟨S8192x30x1, .i1⟩
  | 64 => ⟨S_, .i1⟩
  | 65 => ⟨S8192x30, .i1⟩
  | 66 => ⟨S8192x30x14, .f32⟩
  | 67 => ⟨S8192x30x14, .i1⟩
  | 68 => ⟨S_, .f32⟩
  | 69 => ⟨S8192x30x14, .f32⟩
  | 70 => ⟨S8192x30x14, .f32⟩
  | 71 => ⟨S8192x1x14, .f32⟩
  | 72 => ⟨S8192x30x14, .f32⟩
  | 73 => ⟨S8192x30x14, .f32⟩
  | 74 => ⟨S8192x30x28, .f32⟩
  | 75 => ⟨S8192x30x64, .f32⟩
  | 76 => ⟨S1x1x64, .f32⟩
  | 77 => ⟨S8192x30x64, .f32⟩
  | 78 => ⟨S8192x30x64, .f32⟩
  | 79 => ⟨S_, .f32⟩
  | 80 => ⟨S8192x30x64, .f32⟩
  | 81 => ⟨S8192x30x64, .f32⟩
  | 82 => ⟨S8192x30x64, .f32⟩
  | 83 => ⟨S1x1x64, .f32⟩
  | 84 => ⟨S8192x30x64, .f32⟩
  | 85 => ⟨S8192x30x64, .f32⟩
  | 86 => ⟨S_, .f32⟩
  | 87 => ⟨S8192x30x64, .f32⟩
  | 88 => ⟨S8192x30x64, .f32⟩
  | 89 => ⟨S_, .f32⟩
  | 90 => ⟨S8192x64, .f32⟩
  | 91 => ⟨S8192x64, .f32⟩
  | 92 => ⟨S_, .f32⟩
  | 93 => ⟨S8192, .f32⟩
  | 94 => ⟨S8192x1, .f32⟩
  | 95 => ⟨S64x8192, .f32⟩
  | 96 => ⟨S8192x8192, .f32⟩
  | 97 => ⟨S_, .f32⟩
  | 98 => ⟨S8192x8192, .f32⟩
  | 99 => ⟨S8192x8192, .f32⟩
  | 100 => ⟨S8192x8192, .f32⟩
  | 101 => ⟨S8192x8192, .f32⟩
  | 102 => ⟨S1x8192, .f32⟩
  | 103 => ⟨S8192x8192, .f32⟩
  | 104 => ⟨S8192x8192, .f32⟩
  | 105 => ⟨S8192x1, .i32⟩
  | 106 => ⟨S1x8192, .i32⟩
  | 107 => ⟨S8192x8192, .i32⟩
  | 108 => ⟨S8192x8192, .i32⟩
  | 109 => ⟨S8192x8192, .i1⟩
  | 110 => ⟨S_, .f32⟩
  | 111 => ⟨S_, .f32⟩
  | 112 => ⟨S8192x8192, .f32⟩
  | 113 => ⟨S8192x8192, .f32⟩
  | 114 => ⟨S8192x8192, .f32⟩
  | 115 => ⟨S8192x30, .f32⟩
  | 116 => ⟨S8192x30, .i32⟩
  | 117 => ⟨S_, .i32⟩
  | 118 => ⟨S8192x30, .i32⟩
  | 119 => ⟨S8192x30, .i1⟩
  | 120 => ⟨S_, .i32⟩
  | 121 => ⟨S8192x30, .i32⟩
  | 122 => ⟨S8192x30, .i32⟩
  | 123 => ⟨S8192x30, .i32⟩
  | 124 => ⟨S8192x30x1, .i32⟩
  | 125 => ⟨S1, .i32⟩
  | 126 => ⟨S_, .i32⟩
  | 127 => ⟨S8192x30x1, .i32⟩
  | _ => ⟨S8192x14, .f32⟩

abbrev hbmTy0_1 (i : Nat) : BufTy := match i % 128 with
  | 0 => ⟨S8192x30x1, .i1⟩
  | 1 => ⟨S1x1x1, .i32⟩
  | 2 => ⟨S8192x30x1, .i32⟩
  | 3 => ⟨S8192x30x1, .i1⟩
  | 4 => ⟨S8192x30x1, .i1⟩
  | 5 => ⟨S_, .i1⟩
  | 6 => ⟨S8192x30, .i1⟩
  | 7 => ⟨S8192x30x64, .f32⟩
  | 8 => ⟨S8192x30x64, .i1⟩
  | 9 => ⟨S_, .f32⟩
  | 10 => ⟨S8192x30x64, .f32⟩
  | 11 => ⟨S8192x30x64, .f32⟩
  | 12 => ⟨S8192x1x64, .f32⟩
  | 13 => ⟨S8192x30x64, .f32⟩
  | 14 => ⟨S8192x30x64, .f32⟩
  | 15 => ⟨S8192x30x128, .f32⟩
  | 16 => ⟨S8192x30x64, .f32⟩
  | 17 => ⟨S1x1x64, .f32⟩
  | 18 => ⟨S8192x30x64, .f32⟩
  | 19 => ⟨S8192x30x64, .f32⟩
  | 20 => ⟨S_, .f32⟩
  | 21 => ⟨S8192x30x64, .f32⟩
  | 22 => ⟨S8192x30x64, .f32⟩
  | 23 => ⟨S8192x30x64, .f32⟩
  | 24 => ⟨S1x1x64, .f32⟩
  | 25 => ⟨S8192x30x64, .f32⟩
  | 26 => ⟨S8192x30x64, .f32⟩
  | 27 => ⟨S_, .f32⟩
  | 28 => ⟨S8192x30x64, .f32⟩
  | 29 => ⟨S8192x30x64, .f32⟩
  | 30 => ⟨S_, .f32⟩
  | 31 => ⟨S8192x64, .f32⟩
  | 32 => ⟨S8192x64, .f32⟩
  | 33 => ⟨S_, .f32⟩
  | 34 => ⟨S8192, .f32⟩
  | 35 => ⟨S8192x1, .f32⟩
  | 36 => ⟨S64x8192, .f32⟩
  | 37 => ⟨S8192x8192, .f32⟩
  | 38 => ⟨S_, .f32⟩
  | 39 => ⟨S8192x8192, .f32⟩
  | 40 => ⟨S8192x8192, .f32⟩
  | 41 => ⟨S8192x8192, .f32⟩
  | 42 => ⟨S8192x8192, .f32⟩
  | 43 => ⟨S1x8192, .f32⟩
  | 44 => ⟨S8192x8192, .f32⟩
  | 45 => ⟨S8192x8192, .f32⟩
  | 46 => ⟨S8192x1, .i32⟩
  | 47 => ⟨S1x8192, .i32⟩
  | 48 => ⟨S8192x8192, .i32⟩
  | 49 => ⟨S8192x8192, .i32⟩
  | 50 => ⟨S8192x8192, .i1⟩
  | 51 => ⟨S_, .f32⟩
  | 52 => ⟨S_, .f32⟩
  | 53 => ⟨S8192x8192, .f32⟩
  | 54 => ⟨S8192x8192, .f32⟩
  | 55 => ⟨S8192x8192, .f32⟩
  | 56 => ⟨S8192x30, .f32⟩
  | 57 => ⟨S8192x30, .i32⟩
  | 58 => ⟨S_, .i32⟩
  | 59 => ⟨S8192x30, .i32⟩
  | 60 => ⟨S8192x30, .i1⟩
  | 61 => ⟨S_, .i32⟩
  | 62 => ⟨S8192x30, .i32⟩
  | 63 => ⟨S8192x30, .i32⟩
  | 64 => ⟨S8192x30, .i32⟩
  | 65 => ⟨S8192x30x1, .i32⟩
  | 66 => ⟨S1, .i32⟩
  | 67 => ⟨S_, .i32⟩
  | 68 => ⟨S8192x30x1, .i32⟩
  | 69 => ⟨S8192x30x1, .i1⟩
  | 70 => ⟨S1x1x1, .i32⟩
  | 71 => ⟨S8192x30x1, .i32⟩
  | 72 => ⟨S8192x30x1, .i1⟩
  | 73 => ⟨S8192x30x1, .i1⟩
  | 74 => ⟨S_, .i1⟩
  | 75 => ⟨S8192x30, .i1⟩
  | 76 => ⟨S8192x30x64, .f32⟩
  | 77 => ⟨S8192x30x64, .i1⟩
  | 78 => ⟨S_, .f32⟩
  | 79 => ⟨S8192x30x64, .f32⟩
  | 80 => ⟨S8192x30x64, .f32⟩
  | 81 => ⟨S8192x1x64, .f32⟩
  | 82 => ⟨S8192x30x64, .f32⟩
  | 83 => ⟨S8192x30x64, .f32⟩
  | 84 => ⟨S8192x30x128, .f32⟩
  | 85 => ⟨S8192x30x64, .f32⟩
  | 86 => ⟨S1x1x64, .f32⟩
  | 87 => ⟨S8192x30x64, .f32⟩
  | 88 => ⟨S8192x30x64, .f32⟩
  | 89 => ⟨S_, .f32⟩
  | 90 => ⟨S8192x30x64, .f32⟩
  | 91 => ⟨S8192x30x64, .f32⟩
  | 92 => ⟨S8192x30x64, .f32⟩
  | 93 => ⟨S1x1x64, .f32⟩
  | 94 => ⟨S8192x30x64, .f32⟩
  | 95 => ⟨S8192x30x64, .f32⟩
  | 96 => ⟨S_, .f32⟩
  | 97 => ⟨S8192x30x64, .f32⟩
  | 98 => ⟨S8192x30x64, .f32⟩
  | 99 => ⟨S_, .f32⟩
  | 100 => ⟨S8192x64, .f32⟩
  | 101 => ⟨S8192x192, .f32⟩
  | 102 => ⟨S8192x1024, .f32⟩
  | 103 => ⟨S1x1024, .f32⟩
  | 104 => ⟨S8192x1024, .f32⟩
  | 105 => ⟨S8192x1024, .f32⟩
  | 106 => ⟨S_, .f32⟩
  | 107 => ⟨S8192x1024, .f32⟩
  | 108 => ⟨S8192x1024, .f32⟩
  | 109 => ⟨S8192x256, .f32⟩
  | 110 => ⟨S1x256, .f32⟩
  | 111 => ⟨S8192x256, .f32⟩
  | 112 => ⟨S8192x256, .f32⟩
  | 113 => ⟨S_, .f32⟩
  | 114 => ⟨S8192x256, .f32⟩
  | 115 => ⟨S8192x256, .f32⟩
  | 116 => ⟨S8192x128, .f32⟩
  | 117 => ⟨S1x128, .f32⟩
  | 118 => ⟨S8192x128, .f32⟩
  | 119 => ⟨S8192x128, .f32⟩
  | 120 => ⟨S_, .f32⟩
  | 121 => ⟨S8192x128, .f32⟩
  | 122 => ⟨S8192x128, .f32⟩
  | 123 => ⟨S8192x64, .f32⟩
  | 124 => ⟨S1x64, .f32⟩
  | 125 => ⟨S8192x64, .f32⟩
  | 126 => ⟨S8192x64, .f32⟩
  | _ => ⟨S8192x14, .f32⟩

abbrev hbmTy (i : Nat) : BufTy := match i / 128 with
  | 0 => hbmTy0_0 i
  | 1 => hbmTy0_1 i
  | _ => ⟨S8192x14, .f32⟩

abbrev bufTy : (tb : Table) → Fin (tcTables nBuf tb) → BufTy
  | .hbm, ⟨i, _⟩ => hbmTy i
  | _, _ => ⟨S8192x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_cst : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_cst_0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst_1 : Ref sig .tc := ⟨.hbm, 41, rfl⟩
abbrev main_call0_v0 : Ref sig .tc := ⟨.hbm, 42, rfl⟩
abbrev main_call0_v1 : Ref sig .tc := ⟨.hbm, 43, rfl⟩
abbrev main_v17 : Ref sig .tc := ⟨.hbm, 44, rfl⟩
abbrev main_v18 : Ref sig .tc := ⟨.hbm, 45, rfl⟩
abbrev main_values : Ref sig .tc := ⟨.hbm, 46, rfl⟩
abbrev main_indices : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_cst : Ref sig .tc := ⟨.hbm, 68, rfl⟩
abbrev main_call1_v15 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_call2_cst : Ref sig .tc := ⟨.hbm, 79, rfl⟩
abbrev main_call2_v0 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_call3_cst : Ref sig .tc := ⟨.hbm, 86, rfl⟩
abbrev main_call3_v0 : Ref sig .tc := ⟨.hbm, 87, rfl⟩
abbrev main_v33 : Ref sig .tc := ⟨.hbm, 88, rfl⟩
abbrev main_cst_2 : Ref sig .tc := ⟨.hbm, 89, rfl⟩
abbrev main_v34 : Ref sig .tc := ⟨.hbm, 90, rfl⟩
abbrev main_v35 : Ref sig .tc := ⟨.hbm, 91, rfl⟩
abbrev main_cst_3 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_cst_4 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_cst_5 : Ref sig .tc := ⟨.hbm, 110, rfl⟩
abbrev main_call4_v0 : Ref sig .tc := ⟨.hbm, 111, rfl⟩
abbrev main_call4_v1 : Ref sig .tc := ⟨.hbm, 112, rfl⟩
abbrev main_v52 : Ref sig .tc := ⟨.hbm, 113, rfl⟩
abbrev main_v53 : Ref sig .tc := ⟨.hbm, 114, rfl⟩
abbrev main_values_6 : Ref sig .tc := ⟨.hbm, 115, rfl⟩
abbrev main_indices_7 : Ref sig .tc := ⟨.hbm, 116, rfl⟩
abbrev main_call5_c : Ref sig .tc := ⟨.hbm, 117, rfl⟩
abbrev main_call5_v0 : Ref sig .tc := ⟨.hbm, 118, rfl⟩
abbrev main_call5_v1 : Ref sig .tc := ⟨.hbm, 119, rfl⟩
abbrev main_call5_c_0 : Ref sig .tc := ⟨.hbm, 120, rfl⟩
abbrev main_call5_v2 : Ref sig .tc := ⟨.hbm, 121, rfl⟩
abbrev main_call5_v3 : Ref sig .tc := ⟨.hbm, 122, rfl⟩
abbrev main_call5_v4 : Ref sig .tc := ⟨.hbm, 123, rfl⟩
abbrev main_call5_v5 : Ref sig .tc := ⟨.hbm, 124, rfl⟩
abbrev main_call5_c_1 : Ref sig .tc := ⟨.hbm, 125, rfl⟩
abbrev main_call5_c_2 : Ref sig .tc := ⟨.hbm, 126, rfl⟩
abbrev main_call5_v6 : Ref sig .tc := ⟨.hbm, 127, rfl⟩
abbrev main_call5_v7 : Ref sig .tc := ⟨.hbm, 128, rfl⟩
abbrev main_call5_v8 : Ref sig .tc := ⟨.hbm, 129, rfl⟩
abbrev main_call5_v9 : Ref sig .tc := ⟨.hbm, 130, rfl⟩
abbrev main_call5_v10 : Ref sig .tc := ⟨.hbm, 131, rfl⟩
abbrev main_call5_v11 : Ref sig .tc := ⟨.hbm, 132, rfl⟩
abbrev main_call5_c_3 : Ref sig .tc := ⟨.hbm, 133, rfl⟩
abbrev main_call5_v12 : Ref sig .tc := ⟨.hbm, 134, rfl⟩
abbrev main_call5_v13 : Ref sig .tc := ⟨.hbm, 135, rfl⟩
abbrev main_call5_v14 : Ref sig .tc := ⟨.hbm, 136, rfl⟩
abbrev main_call5_cst : Ref sig .tc := ⟨.hbm, 137, rfl⟩
abbrev main_call5_v15 : Ref sig .tc := ⟨.hbm, 138, rfl⟩
abbrev main_v54 : Ref sig .tc := ⟨.hbm, 139, rfl⟩
abbrev main_v55 : Ref sig .tc := ⟨.hbm, 140, rfl⟩
abbrev main_v56 : Ref sig .tc := ⟨.hbm, 141, rfl⟩
abbrev main_v57 : Ref sig .tc := ⟨.hbm, 142, rfl⟩
abbrev main_v58 : Ref sig .tc := ⟨.hbm, 143, rfl⟩
abbrev main_v59 : Ref sig .tc := ⟨.hbm, 144, rfl⟩
abbrev main_v60 : Ref sig .tc := ⟨.hbm, 145, rfl⟩
abbrev main_v61 : Ref sig .tc := ⟨.hbm, 146, rfl⟩
abbrev main_v62 : Ref sig .tc := ⟨.hbm, 147, rfl⟩
abbrev main_call6_cst : Ref sig .tc := ⟨.hbm, 148, rfl⟩
abbrev main_call6_v0 : Ref sig .tc := ⟨.hbm, 149, rfl⟩
abbrev main_v63 : Ref sig .tc := ⟨.hbm, 150, rfl⟩
abbrev main_v64 : Ref sig .tc := ⟨.hbm, 151, rfl⟩
abbrev main_v65 : Ref sig .tc := ⟨.hbm, 152, rfl⟩
abbrev main_v66 : Ref sig .tc := ⟨.hbm, 153, rfl⟩
abbrev main_v67 : Ref sig .tc := ⟨.hbm, 154, rfl⟩
abbrev main_call7_cst : Ref sig .tc := ⟨.hbm, 155, rfl⟩
abbrev main_call7_v0 : Ref sig .tc := ⟨.hbm, 156, rfl⟩
abbrev main_v68 : Ref sig .tc := ⟨.hbm, 157, rfl⟩
abbrev main_cst_8 : Ref sig .tc := ⟨.hbm, 158, rfl⟩
abbrev main_v69 : Ref sig .tc := ⟨.hbm, 159, rfl⟩
abbrev main_v70 : Ref sig .tc := ⟨.hbm, 160, rfl⟩
abbrev main_cst_9 : Ref sig .tc := ⟨.hbm, 161, rfl⟩
abbrev main_v71 : Ref sig .tc := ⟨.hbm, 162, rfl⟩
abbrev main_v72 : Ref sig .tc := ⟨.hbm, 163, rfl⟩
abbrev main_v73 : Ref sig .tc := ⟨.hbm, 164, rfl⟩
abbrev main_v74 : Ref sig .tc := ⟨.hbm, 165, rfl⟩
abbrev main_cst_10 : Ref sig .tc := ⟨.hbm, 166, rfl⟩
abbrev main_v75 : Ref sig .tc := ⟨.hbm, 167, rfl⟩
abbrev main_v76 : Ref sig .tc := ⟨.hbm, 168, rfl⟩
abbrev main_v77 : Ref sig .tc := ⟨.hbm, 169, rfl⟩
abbrev main_v78 : Ref sig .tc := ⟨.hbm, 170, rfl⟩
abbrev main_v79 : Ref sig .tc := ⟨.hbm, 171, rfl⟩
abbrev main_v80 : Ref sig .tc := ⟨.hbm, 172, rfl⟩
abbrev main_v81 : Ref sig .tc := ⟨.hbm, 173, rfl⟩
abbrev main_v82 : Ref sig .tc := ⟨.hbm, 174, rfl⟩
abbrev main_v83 : Ref sig .tc := ⟨.hbm, 175, rfl⟩
abbrev main_v84 : Ref sig .tc := ⟨.hbm, 176, rfl⟩
abbrev main_v85 : Ref sig .tc := ⟨.hbm, 177, rfl⟩
abbrev main_v86 : Ref sig .tc := ⟨.hbm, 178, rfl⟩
abbrev main_cst_11 : Ref sig .tc := ⟨.hbm, 179, rfl⟩
abbrev main_call8_v0 : Ref sig .tc := ⟨.hbm, 180, rfl⟩
abbrev main_call8_v1 : Ref sig .tc := ⟨.hbm, 181, rfl⟩
abbrev main_v87 : Ref sig .tc := ⟨.hbm, 182, rfl⟩
abbrev main_v88 : Ref sig .tc := ⟨.hbm, 183, rfl⟩
abbrev main_values_12 : Ref sig .tc := ⟨.hbm, 184, rfl⟩
abbrev main_indices_13 : Ref sig .tc := ⟨.hbm, 185, rfl⟩
abbrev main_call9_c : Ref sig .tc := ⟨.hbm, 186, rfl⟩
abbrev main_call9_v0 : Ref sig .tc := ⟨.hbm, 187, rfl⟩
abbrev main_call9_v1 : Ref sig .tc := ⟨.hbm, 188, rfl⟩
abbrev main_call9_c_0 : Ref sig .tc := ⟨.hbm, 189, rfl⟩
abbrev main_call9_v2 : Ref sig .tc := ⟨.hbm, 190, rfl⟩
abbrev main_call9_v3 : Ref sig .tc := ⟨.hbm, 191, rfl⟩
abbrev main_call9_v4 : Ref sig .tc := ⟨.hbm, 192, rfl⟩
abbrev main_call9_v5 : Ref sig .tc := ⟨.hbm, 193, rfl⟩
abbrev main_call9_c_1 : Ref sig .tc := ⟨.hbm, 194, rfl⟩
abbrev main_call9_c_2 : Ref sig .tc := ⟨.hbm, 195, rfl⟩
abbrev main_call9_v6 : Ref sig .tc := ⟨.hbm, 196, rfl⟩
abbrev main_call9_v7 : Ref sig .tc := ⟨.hbm, 197, rfl⟩
abbrev main_call9_v8 : Ref sig .tc := ⟨.hbm, 198, rfl⟩
abbrev main_call9_v9 : Ref sig .tc := ⟨.hbm, 199, rfl⟩
abbrev main_call9_v10 : Ref sig .tc := ⟨.hbm, 200, rfl⟩
abbrev main_call9_v11 : Ref sig .tc := ⟨.hbm, 201, rfl⟩
abbrev main_call9_c_3 : Ref sig .tc := ⟨.hbm, 202, rfl⟩
abbrev main_call9_v12 : Ref sig .tc := ⟨.hbm, 203, rfl⟩
abbrev main_call9_v13 : Ref sig .tc := ⟨.hbm, 204, rfl⟩
abbrev main_call9_v14 : Ref sig .tc := ⟨.hbm, 205, rfl⟩
abbrev main_call9_cst : Ref sig .tc := ⟨.hbm, 206, rfl⟩
abbrev main_call9_v15 : Ref sig .tc := ⟨.hbm, 207, rfl⟩
abbrev main_v89 : Ref sig .tc := ⟨.hbm, 208, rfl⟩
abbrev main_v90 : Ref sig .tc := ⟨.hbm, 209, rfl⟩
abbrev main_v91 : Ref sig .tc := ⟨.hbm, 210, rfl⟩
abbrev main_v92 : Ref sig .tc := ⟨.hbm, 211, rfl⟩
abbrev main_v93 : Ref sig .tc := ⟨.hbm, 212, rfl⟩
abbrev main_v94 : Ref sig .tc := ⟨.hbm, 213, rfl⟩
abbrev main_v95 : Ref sig .tc := ⟨.hbm, 214, rfl⟩
abbrev main_v96 : Ref sig .tc := ⟨.hbm, 215, rfl⟩
abbrev main_v97 : Ref sig .tc := ⟨.hbm, 216, rfl⟩
abbrev main_call10_cst : Ref sig .tc := ⟨.hbm, 217, rfl⟩
abbrev main_call10_v0 : Ref sig .tc := ⟨.hbm, 218, rfl⟩
abbrev main_v98 : Ref sig .tc := ⟨.hbm, 219, rfl⟩
abbrev main_v99 : Ref sig .tc := ⟨.hbm, 220, rfl⟩
abbrev main_v100 : Ref sig .tc := ⟨.hbm, 221, rfl⟩
abbrev main_v101 : Ref sig .tc := ⟨.hbm, 222, rfl⟩
abbrev main_v102 : Ref sig .tc := ⟨.hbm, 223, rfl⟩
abbrev main_call11_cst : Ref sig .tc := ⟨.hbm, 224, rfl⟩
abbrev main_call11_v0 : Ref sig .tc := ⟨.hbm, 225, rfl⟩
abbrev main_v103 : Ref sig .tc := ⟨.hbm, 226, rfl⟩
abbrev main_cst_14 : Ref sig .tc := ⟨.hbm, 227, rfl⟩
abbrev main_v104 : Ref sig .tc := ⟨.hbm, 228, rfl⟩
abbrev main_v105 : Ref sig .tc := ⟨.hbm, 229, rfl⟩
abbrev main_v106 : Ref sig .tc := ⟨.hbm, 230, rfl⟩
abbrev main_v107 : Ref sig .tc := ⟨.hbm, 231, rfl⟩
abbrev main_v108 : Ref sig .tc := ⟨.hbm, 232, rfl⟩
abbrev main_v109 : Ref sig .tc := ⟨.hbm, 233, rfl⟩
abbrev main_call12_cst : Ref sig .tc := ⟨.hbm, 234, rfl⟩
abbrev main_call12_v0 : Ref sig .tc := ⟨.hbm, 235, rfl⟩
abbrev main_v110 : Ref sig .tc := ⟨.hbm, 236, rfl⟩
abbrev main_v111 : Ref sig .tc := ⟨.hbm, 237, rfl⟩
abbrev main_v112 : Ref sig .tc := ⟨.hbm, 238, rfl⟩
abbrev main_v113 : Ref sig .tc := ⟨.hbm, 239, rfl⟩
abbrev main_v114 : Ref sig .tc := ⟨.hbm, 240, rfl⟩
abbrev main_call13_cst : Ref sig .tc := ⟨.hbm, 241, rfl⟩
abbrev main_call13_v0 : Ref sig .tc := ⟨.hbm, 242, rfl⟩
abbrev main_v115 : Ref sig .tc := ⟨.hbm, 243, rfl⟩
abbrev main_v116 : Ref sig .tc := ⟨.hbm, 244, rfl⟩
abbrev main_v117 : Ref sig .tc := ⟨.hbm, 245, rfl⟩
abbrev main_v118 : Ref sig .tc := ⟨.hbm, 246, rfl⟩
abbrev main_v119 : Ref sig .tc := ⟨.hbm, 247, rfl⟩
abbrev main_call14_cst : Ref sig .tc := ⟨.hbm, 248, rfl⟩
abbrev main_call14_v0 : Ref sig .tc := ⟨.hbm, 249, rfl⟩
abbrev main_v120 : Ref sig .tc := ⟨.hbm, 250, rfl⟩
abbrev main_v121 : Ref sig .tc := ⟨.hbm, 251, rfl⟩
abbrev main_v122 : Ref sig .tc := ⟨.hbm, 252, rfl⟩
abbrev main_v123 : Ref sig .tc := ⟨.hbm, 253, rfl⟩
abbrev main_v124 : Ref sig .tc := ⟨.hbm, 254, rfl⟩

abbrev nD : Nat := 1
abbrev τ : Topo := Topo.v7x

variable {F : FTy → Type} [FloatOps F]
-- ==== Proof.Step.lean ====
/-
  ONE NEIGHBOUR AT A TIME. The edge convolution's kernel extracts thirty neighbours of each of its 256 points, one after
  the other, by unrolled code. Here one extraction is one function, for any number `f` of features, and what each of the
  three edge-convolution calls leaves in its output block is the thirtieth iterate (`out0_eq`, `out1_eq`, `out2_eq`).
-/
module

public import proofs.«01_k».proof.Proof.Gen.KernelIdeal.Frame
public import Idealize.ShloMosaic.Lib.MatmulPlain

@[expose] public section

set_option maxRecDepth 16384

noncomputable section

namespace Cert.Dgcnn

open Idealize.ShloMosaic Idealize.SL.Sem Cert.KernelIdeal Cert.KernelIdeal.Gen

/-- The shape of an `m` by `n` matrix. -/
abbrev Mat (m n : ℕ) : Shape := ⟨2, ![m, n]⟩

variable {F : FTy → Type} [FloatOps F] [Named F]

/-- The column numbers of the distance matrix. -/
abbrev cols : IVec S256x8192 32 := iota .tc S256x8192 32 [1] iota_S256x8192_d1_w32

/-- Each row's first minimum, marked. -/
def mark (d : FVec F S256x8192 .f32) : IVec S256x8192 1 :=
  let least := broadcastTo S256x8192 (shapeCast S256x1 (multiReduction .minimumf [1] S256 d 0x7F800000#32
    reduces_S256x8192_S256 (.inl rfl) rfl) shapeCasts_S256_S256x1) broadcasts_S256x1_S256x8192
  let first := multiReductionI .minsi [1] S256 (select (cmpf .oeq d least) cols (broadcast S256x8192 8192#32))
    2147483647#32 reduces_S256x8192_S256 rfl
  cmpi .eq cols (broadcastTo S256x8192 (shapeCast S256x1 first shapeCasts_S256_S256x1) broadcasts_S256x1_S256x8192)

/-- The masking value everywhere. -/
def bigs : FVec F S256x8192 .f32 := broadcast S256x8192 (Named.named κ "big" 0x7F61B1E6#32)

/-- The distances with each row's first minimum raised to the masking value. -/
def knockRows (d : FVec F S256x8192 .f32) : FVec F S256x8192 .f32 := select (mark d) bigs d

/-- The leading part of a matrix split in three. -/
def part1 {s : Shape} (x : FVec F s .f32) : FVec F s .bf16 := truncf .bf16 x bitsLt_bf16_f32
/-- What the leading part leaves. -/
def rest1 {s : Shape} (x : FVec F s .f32) : FVec F s .f32 := subf x (extf .f32 (part1 x) bitsLt_bf16_f32)
/-- The second part. -/
def part2 {s : Shape} (x : FVec F s .f32) : FVec F s .bf16 := truncf .bf16 (rest1 x) bitsLt_bf16_f32
/-- The last part. -/
def part3 {s : Shape} (x : FVec F s .f32) : FVec F s .bf16 :=
  truncf .bf16 (subf (rest1 x) (extf .f32 (part2 x) bitsLt_bf16_f32)) bitsLt_bf16_f32

/-- A product by a matrix split in three. -/
def matmul3 {s t u : Shape} (D : DotDims s t u) (l : FVec F s .bf16) (x : FVec F t .f32) : FVec F u .f32 :=
  addf (addf (matmul D none l (part1 x) (constant u .f32 0x00000000#32))
    (matmul D none l (part2 x) (constant u .f32 0x00000000#32))) (matmul D none l (part3 x) (constant u .f32 0x00000000#32))

/-- The squared distances of the block's 256 points `xr` to all the points `xa`; the masking value between groups. -/
def distances (f : ℕ) (hr : (Mat 256 f).Reduces [1] S256) (xr : FVec F (Mat 256 f) .f32) (xa : FVec F (Mat 8192 f) .f32)
    (br : FVec F S256x1 .f32) (bc : FVec F S1x8192 .f32) : FVec F S256x8192 .f32 :=
  let sqr := broadcastTo S256x8192 (shapeCast S256x1 (multiReduction .add [1] S256 (mulf xr xr) 0x00000000#32
    hr (.inl rfl) rfl) shapeCasts_S256_S256x1) broadcasts_S256x1_S256x8192
  let xx := matmul (DotDims.transposedRhs 256 f 8192) none (part1 xr) (part1 xa) (constant S256x8192 .f32 0x00000000#32)
  let ones : FVec F (Mat 1 f) .f32 := broadcast (Mat 1 f) (Scalar.ofBits .f32 0x3F800000#32)
  let sqa := broadcastTo S256x8192 (matmul3 (DotDims.transposedRhs 1 f 8192) (part1 ones) (mulf xa xa))
    broadcasts_S1x8192_S256x8192
  select (cmpf .one (broadcastTo S256x8192 (shapeCast S256x1 br shapeCasts_S256x1_S256x1) broadcasts_S256x1_S256x8192)
      (broadcastTo S256x8192 (shapeCast S1x8192 bc shapeCasts_S1x8192_S1x8192) broadcasts_S1x8192_S256x8192)) bigs
    (addf (subf sqr (mulf (broadcast S256x8192 (Scalar.ofBits .f32 0x40000000#32)) xx)) sqa)

/-- The edge feature from each of the block's points to the neighbour that `d` marks: the point, and the difference. -/
def edges (f : ℕ) (hc : Shape.Concatenates [Mat 256 f, Mat 256 f] (Mat 256 (f + f)) 1) (xr : FVec F (Mat 256 f) .f32)
    (xa : FVec F (Mat 8192 f) .f32) (d : FVec F S256x8192 .f32) : FVec F (Mat 256 (f + f)) .f32 :=
  let pick : FVec F S256x8192 .bf16 := truncf .bf16 (sitofp .f32 (extui 32 (mark d) natLt_1_32)) bitsLt_bf16_f32
  concatenate (Mat 256 (f + f)) 1
    [⟨Mat 256 f, xr⟩, ⟨Mat 256 f, subf (matmul3 (DotDims.plain 256 8192 f) pick xa) xr⟩] hc

/-- The two-layer perceptron on each row of `e`. -/
def percept (g : ℕ) (e : FVec F (Mat 256 g) .f32) (w1 : FVec F (Mat g 64) .f32) (b1 : FVec F S1x64 .f32)
    (w2 : FVec F S64x64 .f32) (b2 : FVec F S1x64 .f32) : FVec F S256x64 .f32 :=
  let zero : FVec F S256x64 .f32 := broadcast S256x64 (Scalar.ofBits .f32 0x00000000#32)
  let h := maximumf (addf (matmul (DotDims.plain 256 g 64) none (part1 e) (part1 w1) (constant S256x64 .f32 0x00000000#32))
    (broadcastTo S256x64 (shapeCast S1x64 b1 shapeCasts_S1x64_S1x64) broadcasts_S1x64_S256x64)) zero
  maximumf (addf (matmul (DotDims.plain 256 64 64) none (part1 h) (part1 w2) (constant S256x64 .f32 0x00000000#32))
    (broadcastTo S256x64 (shapeCast S1x64 b2 shapeCasts_S1x64_S1x64) broadcasts_S1x64_S256x64)) zero

/-- The running maximum over the first `n` neighbours. -/
def running (f : ℕ) (hr : (Mat 256 f).Reduces [1] S256) (hc : Shape.Concatenates [Mat 256 f, Mat 256 f] (Mat 256 (f + f)) 1)
    (xr : FVec F (Mat 256 f) .f32) (xa : FVec F (Mat 8192 f) .f32) (br : FVec F S256x1 .f32) (bc : FVec F S1x8192 .f32)
    (w1 : FVec F (Mat (f + f) 64) .f32) (b1 : FVec F S1x64 .f32) (w2 : FVec F S64x64 .f32) (b2 : FVec F S1x64 .f32) :
    ℕ → FVec F S256x64 .f32
  | 0 => broadcast S256x64 (Scalar.ofBits .f32 0xFF61B1E6#32)
  | n + 1 => maximumf (running f hr hc xr xa br bc w1 b1 w2 b2 n)
      (percept (f + f) (edges f hc xr xa (knockRows^[n] (distances f hr xr xa br bc))) w1 b1 w2 b2)

/-- What the first layer's call leaves in its output block. -/
theorem out0_eq (x0 : Vec F S256x14 .f32) (x1 : Vec F S8192x14 .f32) (x2 : Vec F S256x1 .f32) (x3 : Vec F S1x8192 .f32)
    (x4 : Vec F S28x64 .f32) (x5 : Vec F S1x64 .f32) (x6 : Vec F S64x64 .f32) (x7 : Vec F S1x64 .f32) :
    out0_8 x0 x1 x2 x3 x4 x5 x6 x7 = View.canon [⟨r0_7, running 14 reduces_S256x14_S256
      concatenates_S256x14_S256x14_S256x28_d1 (View.ld x0 r0_0) (View.ld x1 r0_1) (View.ld x2 r0_2)
      (View.ld x3 r0_3) (View.ld x4 r0_4) (View.ld x5 r0_5) (View.ld x6 r0_6) (View.ld x7 r0_5) 30⟩] := by
  sl_kernel_rfl

/-- What the second layer's call leaves in its output block. -/
theorem out1_eq (x0 : Vec F S256x64 .f32) (x1 : Vec F S8192x64 .f32) (x2 : Vec F S256x1 .f32) (x3 : Vec F S1x8192 .f32)
    (x4 : Vec F S128x64 .f32) (x5 : Vec F S1x64 .f32) (x6 : Vec F S64x64 .f32) (x7 : Vec F S1x64 .f32) :
    out1_8 x0 x1 x2 x3 x4 x5 x6 x7 = View.canon [⟨r1_0, running 64 reduces_S256x64_S256
      concatenates_S256x64_S256x64_S256x128_d1 (k1_pay2 (View.ld x0 r1_0)) (k1_pay3 (View.ld x1 r1_1)) (View.ld x2 r1_2)
      (View.ld x3 r1_3) (View.ld x4 r1_4) (View.ld x5 r1_5) (View.ld x6 r1_6) (View.ld x7 r1_5) 30⟩] := by
  sl_kernel_rfl

/-- The third layer's call leaves what the second layer's would. -/
theorem out2_eq (x0 : Vec F S256x64 .f32) (x1 : Vec F S8192x64 .f32) (x2 : Vec F S256x1 .f32) (x3 : Vec F S1x8192 .f32)
    (x4 : Vec F S128x64 .f32) (x5 : Vec F S1x64 .f32) (x6 : Vec F S64x64 .f32) (x7 : Vec F S1x64 .f32) :
    out2_8 x0 x1 x2 x3 x4 x5 x6 x7 = View.canon [⟨r1_0, running 64 reduces_S256x64_S256
      concatenates_S256x64_S256x64_S256x128_d1 (k1_pay2 (View.ld x0 r1_0)) (k1_pay3 (View.ld x1 r1_1)) (View.ld x2 r1_2)
      (View.ld x3 r1_3) (View.ld x4 r1_4) (View.ld x5 r1_5) (View.ld x6 r1_6) (View.ld x7 r1_5) 30⟩] := by
  sl_kernel_rfl

end Cert.Dgcnn
-- ==== Proof.Nearest.lean ====
/-
  REPEATED FIRST-MINIMUM EXTRACTION IS A STABLE SORT'S PREFIX. A row `D` of `N` extended reals (the squared distances
  from one point to all the others, `⊤` where the other point is in another group) is searched by taking the least
  position that attains the minimum, raising that entry to `⊤`, and starting over. If at least `K` entries are below
  `⊤`, then the first `K` positions found this way are the first `K` positions of the row sorted ascending with equal
  entries kept in position order.
-/
module

public import Idealize.ShloMosaic.Lib.SortFacts
public import Mathlib.Data.EReal.Basic
public import Mathlib.Data.Fintype.Card

@[expose] public section

noncomputable section

namespace Cert.Dgcnn

open Idealize.ShloMosaic

variable {N : ℕ}

/-- `j` is the FIRST position at which `D` attains its minimum. -/
def IsFirstMin (D : Fin N → EReal) (j : Fin N) : Prop := (∀ i, D j ≤ D i) ∧ ∀ i, i < j → D j < D i

/-- There is at most one such position. -/
theorem IsFirstMin.unique {D : Fin N → EReal} {j k : Fin N} (hj : IsFirstMin D j) (hk : IsFirstMin D k) : j = k := by
  rcases lt_trichotomy j k with h | h | h
  · exact absurd (hk.2 j h) (not_lt.mpr (hj.1 k))
  · exact h
  · exact absurd (hj.2 k h) (not_lt.mpr (hk.1 j))

/-- A nonempty row has one. -/
theorem exists_isFirstMin (D : Fin (N + 1) → EReal) : ∃ j, IsFirstMin D j := by
  classical
  obtain ⟨m, -, hm⟩ := Finset.exists_min_image Finset.univ D ⟨0, Finset.mem_univ _⟩
  have hne : (Finset.univ.filter fun j => D j = D m).Nonempty := ⟨m, by simp⟩
  refine ⟨(Finset.univ.filter fun j => D j = D m).min' hne, ?_, fun i hi => ?_⟩
  · have := (Finset.mem_filter.mp (Finset.min'_mem _ hne)).2
    intro i; rw [this]; exact hm i (Finset.mem_univ i)
  · have h1 := (Finset.mem_filter.mp (Finset.min'_mem _ hne)).2
    rw [h1]
    refine lt_of_le_of_ne (hm i (Finset.mem_univ i)) fun h => ?_
    exact absurd (Finset.min'_le _ i (by simp [h])) (not_le.mpr hi)

/-- The first position of the minimum. -/
def firstMin (D : Fin (N + 1) → EReal) : Fin (N + 1) := (exists_isFirstMin D).choose

theorem firstMin_spec (D : Fin (N + 1) → EReal) : IsFirstMin D (firstMin D) := (exists_isFirstMin D).choose_spec

theorem firstMin_eq {D : Fin (N + 1) → EReal} {j : Fin (N + 1)} (h : IsFirstMin D j) : firstMin D = j :=
  (firstMin_spec D).unique h

theorem isFirstMin_iff (D : Fin (N + 1) → EReal) (j : Fin (N + 1)) : IsFirstMin D j ↔ j = firstMin D :=
  ⟨fun h => (firstMin_eq h).symm, fun h => h ▸ firstMin_spec D⟩

/-- The row with its first minimum taken out: that entry becomes `⊤`. -/
def knock (D : Fin (N + 1) → EReal) : Fin (N + 1) → EReal := fun j => if j = firstMin D then ⊤ else D j

/-- The position found in round `n`. -/
def nearest (D : Fin (N + 1) → EReal) (n : ℕ) : Fin (N + 1) := firstMin (knock^[n] D)

/-- An enumeration `σ` of the positions along which `D` ascends, equal entries in position order. -/
def Ascends (D : Fin (N + 1) → EReal) (σ : Fin (N + 1) → Fin (N + 1)) : Prop :=
  Function.Bijective σ ∧ ∀ a b, a < b → D (σ a) < D (σ b) ∨ (D (σ a) = D (σ b) ∧ σ a < σ b)

/-- If `K` entries of `D` are below `⊤`, the first `K` positions of an ascending enumeration hold such entries. -/
theorem Ascends.lt_top {D : Fin (N + 1) → EReal} {σ : Fin (N + 1) → Fin (N + 1)} (h : Ascends D σ) {K : ℕ}
    (hK : K ≤ (Finset.univ.filter fun j => D j < ⊤).card) (a : Fin (N + 1)) (ha : a.val < K) : D (σ a) < ⊤ := by
  classical
  by_contra hc
  have htop : D (σ a) = ⊤ := not_lt_top_iff.mp hc
  have hsub : (Finset.univ.filter fun j => D j < ⊤) ⊆ (Finset.univ.filter fun b : Fin (N + 1) => b < a).image σ := by
    intro j hj
    obtain ⟨b, rfl⟩ := h.1.2 j
    refine Finset.mem_image.mpr ⟨b, Finset.mem_filter.mpr ⟨Finset.mem_univ _, ?_⟩, rfl⟩
    by_contra hb
    rcases lt_or_eq_of_le (not_lt.mp hb) with hlt | heq
    · rcases h.2 a b hlt with h1 | h1
      · rw [htop] at h1; exact absurd h1 not_top_lt
      · have := (Finset.mem_filter.mp hj).2
        rw [← h1.1, htop] at this; exact absurd this (lt_irrefl _)
    · have := (Finset.mem_filter.mp hj).2
      rw [← heq, htop] at this; exact absurd this (lt_irrefl _)
  have h1 := (Finset.card_le_card hsub).trans Finset.card_image_le
  have h2 : (Finset.univ.filter fun b : Fin (N + 1) => b < a).card = a.val := by
    have e : (Finset.univ.filter fun b : Fin (N + 1) => b < a) = Finset.Iio a := by ext; simp
    rw [e, Fin.card_Iio]
  omega

/-- The row after `n` rounds: the first `n` positions of the enumeration are at `⊤`, the rest as they were. -/
theorem Ascends.iterate_knock {D : Fin (N + 1) → EReal} {σ : Fin (N + 1) → Fin (N + 1)} (h : Ascends D σ) {K : ℕ}
    (hK : K ≤ (Finset.univ.filter fun j => D j < ⊤).card) :
    ∀ n, n ≤ K → n ≤ N + 1 → ∀ b, knock^[n] D (σ b) = if b.val < n then ⊤ else D (σ b)
  | 0, _, _, b => by simp
  | n + 1, hn, hN, b => by
    have ih := h.iterate_knock hK n (by omega) (by omega)
    have hp : firstMin (knock^[n] D) = σ ⟨n, by omega⟩ := by
      refine firstMin_eq ⟨fun i => ?_, fun i hi => ?_⟩ <;> obtain ⟨c, rfl⟩ := h.1.2 i <;>
        have e1 := ih ⟨n, by omega⟩ <;> rw [if_neg (by simp)] at e1 <;> rw [e1, ih c]
      · split
        · exact le_top
        · rename_i hc
          rcases Nat.lt_or_eq_of_le (not_lt.mp hc) with hlt | heq
          · rcases h.2 ⟨n, by omega⟩ c hlt with h1 | h1
            · exact h1.le
            · exact h1.1.le
          · have : c = ⟨n, by omega⟩ := Fin.ext heq.symm
            rw [this]
      · split
        · exact h.lt_top hK _ (by show n < K; omega)
        · rename_i hc
          rcases Nat.lt_or_eq_of_le (not_lt.mp hc) with hlt | heq
          · rcases h.2 ⟨n, by omega⟩ c hlt with h1 | h1
            · exact h1
            · exact absurd hi (not_lt.mpr h1.2.le)
          · have : c = ⟨n, by omega⟩ := Fin.ext heq.symm
            rw [this] at hi; exact absurd hi (lt_irrefl _)
    rw [Function.iterate_succ_apply', knock, hp]
    by_cases hb : b = ⟨n, by omega⟩
    · subst hb; simp
    · have hne : b.val ≠ n := fun e => hb (Fin.ext e)
      rw [if_neg (fun e => hb (h.1.1 e)), ih b]
      by_cases hlt : b.val < n
      · rw [if_pos hlt, if_pos (by omega)]
      · rw [if_neg hlt, if_neg (by omega)]

/-- So the position found in round `n` is the enumeration's position `n`. -/
theorem Ascends.nearest_eq {D : Fin (N + 1) → EReal} {σ : Fin (N + 1) → Fin (N + 1)} (h : Ascends D σ) {K : ℕ}
    (hK : K ≤ (Finset.univ.filter fun j => D j < ⊤).card) (n : Fin (N + 1)) (hn : n.val < K) : nearest D n.val = σ n := by
  have ih := h.iterate_knock hK n.val (by omega) (by omega)
  refine firstMin_eq ⟨fun i => ?_, fun i hi => ?_⟩ <;> obtain ⟨c, rfl⟩ := h.1.2 i <;>
    have e1 := ih n <;> rw [if_neg (lt_irrefl _)] at e1 <;> rw [e1, ih c]
  · split
    · exact le_top
    · rename_i hc
      rcases lt_or_eq_of_le (not_lt.mp hc) with hlt | heq
      · rcases h.2 n c hlt with h1 | h1
        · exact h1.le
        · exact h1.1.le
      · have : c = n := Fin.ext heq.symm
        rw [this]
  · split
    · exact h.lt_top hK _ hn
    · rename_i hc
      rcases lt_or_eq_of_le (not_lt.mp hc) with hlt | heq
      · rcases h.2 n c hlt with h1 | h1
        · exact h1
        · exact absurd hi (not_lt.mpr h1.2.le)
      · have : c = n := Fin.ext heq.symm
        rw [this] at hi; exact absurd hi (lt_irrefl _)

/-- Positions compared by entry, equal entries by position. -/
def lexBefore (D : Fin N → EReal) (a b : Fin N) : Bool := decide (D a < D b ∨ (D a = D b ∧ a < b))

/-- On positions listed in ascending order the stable sort by entries alone is the sort by entry and position. -/
theorem stableSort_eq_lex (D : Fin N → EReal) (B : Fin N → Fin N → Bool) (hB : ∀ a b, B a b = decide (D a < D b)) :
    ∀ l : List (Fin N), l.Pairwise (· < ·) → stableSort B l = stableSort (lexBefore D) l
  | [], _ => rfl
  | a :: l, hl => by
    rw [List.pairwise_cons] at hl
    unfold stableSort
    rw [stableSort_eq_lex D B hB l hl.2]
    refine insertBefore_congr _ _ a _ fun b hb => ?_
    have hab : a < b := hl.1 b ((perm_stableSort _ l).mem_iff.mp hb)
    rw [hB, lexBefore]
    congr 1
    simp only [eq_iff_iff]
    exact ⟨Or.inl, fun h => h.resolve_right fun e => absurd e.2 (not_lt.mpr hab.le)⟩

/-- The stable sort's enumeration ascends. -/
theorem ascends_sortedFrom (D : Fin (N + 1) → EReal) (B : Fin (N + 1) → Fin (N + 1) → Bool)
    (hB : ∀ a b, B a b = decide (D a < D b)) : Ascends D (sortedFrom B) := by
  have e : sortedFrom B = sortedFrom (lexBefore D) := by
    funext k
    unfold sortedFrom
    rw [List.get_of_eq (show sortPositions (N + 1) B = sortPositions (N + 1) (lexBefore D) from
      stableSort_eq_lex D B hB _ (List.sortedLT_finRange _).pairwise)]
    rfl
  rw [e]
  refine ⟨⟨sortedFrom_injective _, sortedFrom_surjective _⟩, fun a b hab => ?_⟩
  have hinv := sortedFrom_noInversion (lexBefore D) (lexBefore D) ?_ (fun _ _ h => h) ?_ a b hab
  · have hne : sortedFrom (lexBefore D) a ≠ sortedFrom (lexBefore D) b := fun h => hab.ne (sortedFrom_injective _ h)
    generalize sortedFrom (lexBefore D) a = p at *
    generalize sortedFrom (lexBefore D) b = q at *
    simp only [lexBefore, decide_eq_false_iff_not, not_or, not_and, not_lt] at hinv
    rcases lt_or_eq_of_le hinv.1 with h | h
    · exact Or.inl h
    · exact Or.inr ⟨h, lt_of_le_of_ne (hinv.2 h.symm) hne⟩
  · intro p q h
    simp only [lexBefore, decide_eq_true_eq, decide_eq_false_iff_not, not_or, not_and, not_lt] at h ⊢
    rcases h with h | h
    · exact ⟨h.le, fun e => absurd h (by rw [e]; exact lt_irrefl _)⟩
    · exact ⟨h.1.le, fun _ => h.2.le⟩
  · intro p q r h1 h2
    simp only [lexBefore, decide_eq_false_iff_not, not_or, not_and, not_lt] at h1 h2 ⊢
    refine ⟨h2.1.trans h1.1, fun e => ?_⟩
    have e1 : D q = D p := le_antisymm h1.1 (e ▸ h2.1)
    have e2 : D r = D q := e ▸ e1.symm
    exact (h2.2 e2.symm).trans (h1.2 e1.symm)

end Cert.Dgcnn

end
-- ==== Proof.Spec.lean ====
/-
  THE MATHEMATICS OF THE EDGE CONVOLUTION, entry by entry on extended reals: distances within a group, the edge feature of
  a point and its neighbour, the two-layer perceptron, and the maximum over a point's thirty nearest neighbours. Both
  programs are shown to compute `layer`.
-/
module

public import proofs.«01_k».proof.Proof.Nearest
public import Idealize.ShloMosaic.PureOps.Ideal

@[expose] public section

noncomputable section

namespace Cert.Dgcnn

open Idealize.ShloMosaic

/-- A real number: neither infinity. -/
def IsReal (x : EReal) : Prop := ∃ a : ℝ, x = (a : EReal)

theorem IsReal.add {x y : EReal} (hx : IsReal x) (hy : IsReal y) : IsReal (x + y) := by
  obtain ⟨a, rfl⟩ := hx; obtain ⟨b, rfl⟩ := hy; exact ⟨a + b, by push_cast; rfl⟩

theorem IsReal.sub {x y : EReal} (hx : IsReal x) (hy : IsReal y) : IsReal (x - y) := by
  obtain ⟨a, rfl⟩ := hx; obtain ⟨b, rfl⟩ := hy; exact ⟨a - b, by push_cast; rfl⟩

theorem IsReal.mul {x y : EReal} (hx : IsReal x) (hy : IsReal y) : IsReal (x * y) := by
  obtain ⟨a, rfl⟩ := hx; obtain ⟨b, rfl⟩ := hy; exact ⟨a * b, by push_cast; rfl⟩

theorem IsReal.max {x y : EReal} (hx : IsReal x) (hy : IsReal y) : IsReal (max x y) := by
  rcases max_choice x y with h | h <;> rw [h] <;> assumption

theorem IsReal.zero : IsReal 0 := ⟨0, by simp⟩

theorem IsReal.sum {ι : Type} (s : Finset ι) {f : ι → EReal} (h : ∀ i, IsReal (f i)) : IsReal (∑ i ∈ s, f i) := by
  classical
  induction s using Finset.induction_on with
  | empty => simpa using IsReal.zero
  | insert a s ha ih => rw [Finset.sum_insert ha]; exact (h a).add ih

theorem IsReal.lt_top {x : EReal} (h : IsReal x) : x < ⊤ := by
  obtain ⟨a, rfl⟩ := h; exact EReal.coe_lt_top a

theorem IsReal.sub_self {x : EReal} (h : IsReal x) : x - x = 0 := by
  obtain ⟨a, rfl⟩ := h; rw [← EReal.coe_sub]; simp

/-- The factor two, as both programs print it. -/
abbrev two : EReal := Ideal.ofBits .f32 0x40000000#32

theorem two_real : IsReal two := by
  refine ⟨2, ?_⟩
  simp [Ideal.ofBits, Ideal.ieee, -EReal.coe_mul]; norm_num

/-- The value the maximum over the neighbours starts from, -3e38, is not positive. -/
theorem lowest_nonpos : Ideal.ofBits .f32 0xFF61B1E6#32 ≤ 0 := by
  simp [Ideal.ofBits, Ideal.ieee, -EReal.coe_mul, -EReal.coe_neg]

theorem inf_eq : Ideal.ofBits .f32 0x7F800000#32 = ⊤ := by
  simp [Ideal.ofBits, Ideal.ieee]

theorem neg_inf_eq : Ideal.ofBits .f32 0xFF800000#32 = ⊥ := by
  simp [Ideal.ofBits, Ideal.ieee]

/-- The squared distance of two points. -/
def sqDist {f : ℕ} (p q : Fin f → EReal) : EReal :=
  (∑ k, p k * p k - two * ∑ k, p k * q k) + ∑ k, q k * q k

/-- The distances from the point `p` in the group `g` to all points; infinite between groups. -/
def rowDist {f : ℕ} (p : Fin f → EReal) (g : EReal) (X : Fin 8192 → Fin f → EReal) (B : Fin 8192 → EReal) :
    Fin 8192 → EReal :=
  fun j => if g = B j then sqDist p (X j) else ⊤

/-- The edge feature: the point, then the difference to the neighbour. -/
def feat {f : ℕ} (p q : Fin f → EReal) : Fin (f + f) → EReal :=
  fun l => if h : l.val < f then p ⟨l.val, h⟩ else q ⟨l.val - f, by omega⟩ - p ⟨l.val - f, by omega⟩

/-- The first layer of the perceptron. -/
def hidden {g : ℕ} (e : Fin g → EReal) (W1 : Fin g → Fin 64 → EReal) (b1 : Fin 64 → EReal) : Fin 64 → EReal :=
  fun k => max (∑ l, e l * W1 l k + b1 k) 0

/-- The two-layer perceptron. -/
def mlp {g : ℕ} (e : Fin g → EReal) (W1 : Fin g → Fin 64 → EReal) (b1 : Fin 64 → EReal)
    (W2 : Fin 64 → Fin 64 → EReal) (b2 : Fin 64 → EReal) : Fin 64 → EReal :=
  fun c => max (∑ k, hidden e W1 b1 k * W2 k c + b2 c) 0

/-- The `n`-th edge's output at the point `p` of the group `g`. -/
def edgeOut {f : ℕ} (p : Fin f → EReal) (g : EReal) (X : Fin 8192 → Fin f → EReal) (B : Fin 8192 → EReal)
    (W1 : Fin (f + f) → Fin 64 → EReal) (b1 : Fin 64 → EReal) (W2 : Fin 64 → Fin 64 → EReal) (b2 : Fin 64 → EReal)
    (n : ℕ) : Fin 64 → EReal :=
  mlp (feat p (X (nearest (rowDist p g X B) n))) W1 b1 W2 b2

/-- The edge convolution at one point: the maximum over its thirty nearest neighbours. -/
def layer {f : ℕ} (p : Fin f → EReal) (g : EReal) (X : Fin 8192 → Fin f → EReal) (B : Fin 8192 → EReal)
    (W1 : Fin (f + f) → Fin 64 → EReal) (b1 : Fin 64 → EReal) (W2 : Fin 64 → Fin 64 → EReal) (b2 : Fin 64 → EReal)
    (c : Fin 64) : EReal :=
  Finset.univ.sup fun n : Fin 30 => edgeOut p g X B W1 b1 W2 b2 n.val c

theorem feat_fin {f : ℕ} {p q : Fin f → EReal} (hp : ∀ k, IsReal (p k)) (hq : ∀ k, IsReal (q k)) (l : Fin (f + f)) :
    IsReal (feat p q l) := by
  unfold feat
  split
  · exact hp _
  · exact (hq _).sub (hp _)

theorem hidden_fin {g : ℕ} {e : Fin g → EReal} {W1 : Fin g → Fin 64 → EReal} {b1 : Fin 64 → EReal}
    (he : ∀ l, IsReal (e l)) (h1 : ∀ l k, IsReal (W1 l k)) (hb : ∀ k, IsReal (b1 k)) (k : Fin 64) : IsReal (hidden e W1 b1 k) :=
  ((IsReal.sum _ fun l => (he l).mul (h1 l k)).add (hb k)).max IsReal.zero

theorem mlp_fin {g : ℕ} {e : Fin g → EReal} {W1 : Fin g → Fin 64 → EReal} {b1 : Fin 64 → EReal}
    {W2 : Fin 64 → Fin 64 → EReal} {b2 : Fin 64 → EReal} (he : ∀ l, IsReal (e l)) (h1 : ∀ l k, IsReal (W1 l k))
    (hb : ∀ k, IsReal (b1 k)) (h2 : ∀ l k, IsReal (W2 l k)) (hb2 : ∀ k, IsReal (b2 k)) (c : Fin 64) :
    IsReal (mlp e W1 b1 W2 b2 c) :=
  ((IsReal.sum _ fun k => (hidden_fin he h1 hb k).mul (h2 k c)).add (hb2 c)).max IsReal.zero

/-- A layer of real numbers on real numbers gives real numbers. -/
theorem layer_fin {f : ℕ} {p : Fin f → EReal} {g : EReal} {X : Fin 8192 → Fin f → EReal} {B : Fin 8192 → EReal}
    {W1 : Fin (f + f) → Fin 64 → EReal} {b1 : Fin 64 → EReal} {W2 : Fin 64 → Fin 64 → EReal} {b2 : Fin 64 → EReal}
    (hp : ∀ k, IsReal (p k)) (hX : ∀ j k, IsReal (X j k)) (h1 : ∀ l k, IsReal (W1 l k)) (hb : ∀ k, IsReal (b1 k))
    (h2 : ∀ l k, IsReal (W2 l k)) (hb2 : ∀ k, IsReal (b2 k)) (c : Fin 64) : IsReal (layer p g X B W1 b1 W2 b2 c) := by
  obtain ⟨n, -, hn⟩ := Finset.exists_mem_eq_sup (Finset.univ : Finset (Fin 30)) Finset.univ_nonempty
    fun n => edgeOut p g X B W1 b1 W2 b2 n.val c
  rw [layer, hn]
  exact mlp_fin (feat_fin hp (hX _)) h1 hb h2 hb2 c

theorem edgeOut_nonneg {f : ℕ} (p : Fin f → EReal) (g : EReal) (X : Fin 8192 → Fin f → EReal) (B : Fin 8192 → EReal)
    (W1 : Fin (f + f) → Fin 64 → EReal) (b1 : Fin 64 → EReal) (W2 : Fin 64 → Fin 64 → EReal) (b2 : Fin 64 → EReal)
    (n : ℕ) (c : Fin 64) : 0 ≤ edgeOut p g X B W1 b1 W2 b2 n c := le_max_right _ _

/-- The edge convolution at every point. -/
def layerAll {f : ℕ} (X : Fin 8192 → Fin f → EReal) (B : Fin 8192 → EReal)
    (W1 : Fin (f + f) → Fin 64 → EReal) (b1 : Fin 64 → EReal) (W2 : Fin 64 → Fin 64 → EReal) (b2 : Fin 64 → EReal) :
    Fin 8192 → Fin 64 → EReal :=
  fun r => layer (X r) (B r) X B W1 b1 W2 b2

/-- One affine map. -/
def dense {a b : ℕ} (W : Fin a → Fin b → EReal) (bias : Fin b → EReal) (v : Fin a → EReal) : Fin b → EReal :=
  fun c => ∑ k, v k * W k c + bias c

/-- The rectifier. -/
def relu {a : ℕ} (v : Fin a → EReal) : Fin a → EReal := fun c => max (v c) 0

/-- Everything the network reads: the points, their groups, the three convolutions' weights, the head's. -/
structure Inputs where
  X : Fin 8192 → Fin 14 → EReal
  B : Fin 8192 → EReal
  W1a : Fin 28 → Fin 64 → EReal
  b1a : Fin 64 → EReal
  W1b : Fin 64 → Fin 64 → EReal
  b1b : Fin 64 → EReal
  W2a : Fin 128 → Fin 64 → EReal
  b2a : Fin 64 → EReal
  W2b : Fin 64 → Fin 64 → EReal
  b2b : Fin 64 → EReal
  W3a : Fin 128 → Fin 64 → EReal
  b3a : Fin 64 → EReal
  W3b : Fin 64 → Fin 64 → EReal
  b3b : Fin 64 → EReal
  Wl : Fin 192 → Fin 1024 → EReal
  bl : Fin 1024 → EReal
  Wm : Fin 1024 → Fin 256 → EReal
  bm : Fin 256 → EReal
  Wn : Fin 256 → Fin 128 → EReal
  bn : Fin 128 → EReal
  Wo : Fin 128 → Fin 64 → EReal
  bo : Fin 64 → EReal

namespace Inputs

variable (I : Inputs)

/-- The points after one convolution. -/
def x1 : Fin 8192 → Fin 64 → EReal := layerAll (f := 14) I.X I.B I.W1a I.b1a I.W1b I.b1b

/-- The points after two convolutions. -/
def x2 : Fin 8192 → Fin 64 → EReal := layerAll (f := 64) I.x1 I.B I.W2a I.b2a I.W2b I.b2b

/-- The points after three convolutions. -/
def x3 : Fin 8192 → Fin 64 → EReal := layerAll (f := 64) I.x2 I.B I.W3a I.b3a I.W3b I.b3b

/-- The head's first affine map, on the three convolutions' features side by side. -/
def joined (r : Fin 8192) : Fin 1024 → EReal := fun c =>
  ∑ k : Fin 64, I.x1 r k * I.Wl ⟨k, by omega⟩ c + ∑ k : Fin 64, I.x2 r k * I.Wl ⟨64 + k, by omega⟩ c
    + ∑ k : Fin 64, I.x3 r k * I.Wl ⟨128 + k, by omega⟩ c + I.bl c

/-- The network's output. -/
def out (r : Fin 8192) : Fin 64 → EReal :=
  dense I.Wo I.bo (relu (dense I.Wn I.bn (relu (dense I.Wm I.bm (relu (I.joined r))))))

/-- The points and the first two convolutions' weights are real numbers. -/
structure Real : Prop where
  X : ∀ i j, IsReal (I.X i j)
  W1a : ∀ i j, IsReal (I.W1a i j)
  b1a : ∀ i, IsReal (I.b1a i)
  W1b : ∀ i j, IsReal (I.W1b i j)
  b1b : ∀ i, IsReal (I.b1b i)
  W2a : ∀ i j, IsReal (I.W2a i j)
  b2a : ∀ i, IsReal (I.b2a i)
  W2b : ∀ i j, IsReal (I.W2b i j)
  b2b : ∀ i, IsReal (I.b2b i)

variable {I}

theorem Real.x1 (h : I.Real) (r : Fin 8192) (c : Fin 64) : IsReal (I.x1 r c) :=
  layer_fin (h.X r) h.X h.W1a h.b1a h.W1b h.b1b c

theorem Real.x2 (h : I.Real) (r : Fin 8192) (c : Fin 64) : IsReal (I.x2 r c) :=
  layer_fin (h.x1 r) h.x1 h.W2a h.b2a h.W2b h.b2b c

end Inputs

/-- The running maximum of a sequence from a starting value. -/
def runMax (s : EReal) (v : ℕ → EReal) : ℕ → EReal
  | 0 => s
  | n + 1 => max (runMax s v n) (v n)

/-- From a starting value below the first member, the running maximum is the maximum. -/
theorem runMax_eq_sup {s : EReal} {v : ℕ → EReal} (h : s ≤ v 0) (n : ℕ) :
    runMax s v (n + 1) = (Finset.range (n + 1)).sup v := by
  induction n with
  | zero => simp [runMax, h]
  | succ n ih => rw [runMax, ih, Finset.range_add_one (n := n + 1), Finset.sup_insert, max_comm]

theorem sup_range_eq_univ (v : ℕ → EReal) (n : ℕ) :
    (Finset.range n).sup v = (Finset.univ : Finset (Fin n)).sup fun i => v i.val := by
  refine le_antisymm (Finset.sup_le fun i hi => ?_) (Finset.sup_le fun i _ => ?_)
  · exact Finset.le_sup (f := fun i : Fin n => v i.val) (Finset.mem_univ ⟨i, Finset.mem_range.mp hi⟩)
  · exact Finset.le_sup (f := v) (Finset.mem_range.mpr i.isLt)

end Cert.Dgcnn
-- ==== Proof.Rows.lean ====
/-
  ONE EXTRACTION, READ. At the extended reals, entry by entry: the marked column of a row is its first minimum, raising it
  is `knock`, the splits into three parts lose nothing on real numbers, and so the running maximum of `Step` is the maximum
  of the edge outputs over the nearest neighbours.
-/
module

public import proofs.«01_k».proof.Proof.Step
public import proofs.«01_k».proof.Proof.Spec
public import Idealize.ShloMosaic.Lib.Pointwise
public import Idealize.ShloMosaic.Lib.Pointwise.IndexVar
public import Idealize.ShloMosaic.Lib.Pointwise.IndexBridge

@[expose] public section

set_option maxRecDepth 16384

noncomputable section

namespace Cert.Dgcnn

open Idealize.ShloMosaic Idealize.SL.Sem Cert.KernelIdeal Cert.KernelIdeal.Gen

/-- A product with the right side transposed, entry by entry. -/
theorem dotT {M K N : ℕ} {φ₁ φ₂ : FTy} (lhs : FVec Ideal (Mat M K) φ₁) (rhs : FVec Ideal (Mat N K) φ₂)
    (acc : FVec Ideal (Mat M N) .f32) (r : Fin M) (c : Fin N) :
    Ideal.matmul (DotDims.transposedRhs M K N) lhs rhs acc (ix2 r c)
      = acc (ix2 r c) + ∑ k : Fin K, lhs (ix2 r k) * rhs (ix2 c k) := by
  simp only [ix2_eq_valueIdx]
  exact Ideal.matmul_transposedRhs_apply none lhs rhs acc r c

/-- A plain product, entry by entry. -/
theorem dotP {M K N : ℕ} {φ₁ φ₂ : FTy} (lhs : FVec Ideal (Mat M K) φ₁) (rhs : FVec Ideal (Mat K N) φ₂)
    (acc : FVec Ideal (Mat M N) .f32) (r : Fin M) (c : Fin N) :
    Ideal.matmul (DotDims.plain M K N) lhs rhs acc (ix2 r c)
      = acc (ix2 r c) + ∑ k : Fin K, lhs (ix2 r k) * rhs (ix2 k c) := by
  simp only [ix2_eq_valueIdx]
  exact Ideal.matmul_plain_apply none lhs rhs acc r c

theorem big_eq : (Named.named κ "big" (0x7F61B1E6#32) : Ideal .f32) = ⊤ :=
  IdealRules.named_const.ideal_named_scalar _ _ _ _ rfl

/-- A signed minimum that some member attains. -/
theorem fold_minsi_eq {n : ℕ} (s : BitVec 32) (g : Fin n → BitVec 32) (k : Fin n) (hs : (g k).toInt ≤ s.toInt)
    (h : ∀ x, (g k).toInt ≤ (g x).toInt) : Finset.univ.fold IntOp.minsi s g = g k := by
  have hom : ∀ x y : BitVec 32, min x.toInt y.toInt = (IntOp.minsi x y).toInt := fun x y => by
    unfold IntOp.minsi
    by_cases hxy : x.toInt < y.toInt
    · simp [BitVec.slt, hxy, hxy.le]
    · simp [BitVec.slt, hxy, not_lt.mp hxy]
  refine BitVec.eq_of_toInt_eq ?_
  rw [← Finset.fold_hom (op' := min) (m := BitVec.toInt) (fun x y => (hom x y).symm)]
  exact le_antisymm (Finset.fold_min_le _ |>.mpr (.inr ⟨k, Finset.mem_univ k, le_rfl⟩))
    ((Finset.le_fold_min _).mpr ⟨hs, fun x _ => h x⟩)

theorem fold_min_eq {n : ℕ} (D : Fin n → EReal) (k : Fin n) (h : ∀ x, D k ≤ D x) :
    Finset.univ.fold min ⊤ D = D k :=
  le_antisymm (Finset.fold_min_le _ |>.mpr (.inr ⟨k, Finset.mem_univ k, le_rfl⟩))
    ((Finset.le_fold_min _).mpr ⟨le_top, fun x _ => h x⟩)

theorem toInt_col {n : ℕ} (hn : n < 2147483648) : (BitVec.ofNat 32 n).toInt = n := by
  rw [BitVec.toInt_eq_toNat_cond, BitVec.toNat_ofNat, Nat.mod_eq_of_lt (by omega)]
  simp; omega

/-- The marked column is the row's first minimum. -/
theorem mark_apply (d : FVec Ideal S256x8192 .f32) (r : Fin 256) (j : Fin 8192) :
    mark d (ix2 r j) = if j = firstMin (fun k : Fin 8192 => d (ix2 r k)) then 1#1 else 0#1 := by
  generalize hk : firstMin (fun k : Fin 8192 => d (ix2 r k)) = k
  obtain ⟨h1, h2⟩ := hk ▸ firstMin_spec (fun k : Fin 8192 => d (ix2 r k))
  pointwise [mark]
  rw [inf_eq, fold_min_eq _ k h1]
  have e := fold_minsi_eq 2147483647#32
    (fun x : Fin 8192 => if d (ix2 r x) = d (ix2 r k) then BitVec.ofNat 32 x.val else 8192#32) k
  rw [if_pos rfl, toInt_col (by omega)] at e
  rw [e (by simp; omega) fun x => ?_]
  · by_cases hj : j = k
    · rw [if_pos hj, hj]
      simp [IntOp.cmpi]
    · rw [if_neg hj]
      have hne : (BitVec.ofNat 32 j.val == BitVec.ofNat 32 k.val) = false := by
        refine beq_eq_false_iff_ne.mpr fun h => hj (Fin.ext ?_)
        have := congrArg BitVec.toInt h
        rw [toInt_col (by omega), toInt_col (by omega)] at this
        exact_mod_cast this
      simp [IntOp.cmpi, hne]
  · split
    · rename_i hx
      rw [toInt_col (by omega)]
      by_contra hlt
      exact absurd hx (h2 x (Fin.lt_def.mpr (by omega))).ne'
    · rw [toInt_col (by omega)]
      simp

/-- Raising the marked entries raises the row's first minimum. -/
theorem knockRows_apply (d : FVec Ideal S256x8192 .f32) (r : Fin 256) :
    (fun j : Fin 8192 => knockRows d (ix2 r j)) = knock (N := 8191) fun j : Fin 8192 => d (ix2 r j) := by
  funext j
  have h : knockRows d (ix2 r j) = Scalar.select (mark d (ix2 r j)) (Named.named κ "big" 0x7F61B1E6#32) (d (ix2 r j)) := rfl
  rw [h, big_eq, mark_apply]
  unfold knock
  split <;> simp [Scalar.select]

theorem knockRows_iterate (d : FVec Ideal S256x8192 .f32) (r : Fin 256) (n : ℕ) :
    (fun j : Fin 8192 => (knockRows^[n] d) (ix2 r j)) = (knock (N := 8191))^[n] fun j : Fin 8192 => d (ix2 r j) := by
  induction n with
  | zero => rfl
  | succ n ih => rw [Function.iterate_succ_apply', Function.iterate_succ_apply', knockRows_apply, ih]

/-- The masked distances of the block's rows. -/
theorem distances_apply (f : ℕ) (hr : (Mat 256 f).Reduces [1] S256) (xr : FVec Ideal (Mat 256 f) .f32)
    (xa : FVec Ideal (Mat 8192 f) .f32) (br : FVec Ideal S256x1 .f32) (bc : FVec Ideal S1x8192 .f32)
    (hx : ∀ j l, IsReal (xa (ix2 j l))) (r : Fin 256) :
    (fun j : Fin 8192 => distances f hr xr xa br bc (ix2 r j))
      = rowDist (fun l => xr (ix2 r l)) (br (ix2 r 0)) (fun j l => xa (ix2 j l)) (fun j => bc (ix2 0 j)) := by
  funext j
  pointwise [distances, matmul3, part1, part2, part3, rest1, bigs]
  simp only [dotT]
  have h0 : ∀ l, IsReal (xa (ix2 j l) * xa (ix2 j l)) := fun l => (hx j l).mul (hx j l)
  have e1 : (∑ k : Fin f, (1 : EReal) * (xa (ix2 j k) * xa (ix2 j k)))
      + (∑ k : Fin f, (1 : EReal) * (xa (ix2 j k) * xa (ix2 j k) - xa (ix2 j k) * xa (ix2 j k)))
      + (∑ k : Fin f, (1 : EReal) * (xa (ix2 j k) * xa (ix2 j k) - xa (ix2 j k) * xa (ix2 j k)
          - (xa (ix2 j k) * xa (ix2 j k) - xa (ix2 j k) * xa (ix2 j k))))
      = ∑ k, xa (ix2 j k) * xa (ix2 j k) := by
    simp [fun l => (h0 l).sub_self]
  rw [big_eq, rowDist]
  by_cases hb : br (ix2 r 0) = bc (ix2 0 j)
  · rw [if_neg (not_not.mpr hb), if_pos hb, sqDist, ← e1]
    pointwise
  · rw [if_pos hb, if_neg hb]

/-- The edge feature of the marked neighbour. -/
theorem edges_apply (f : ℕ) (hc : Shape.Concatenates [Mat 256 f, Mat 256 f] (Mat 256 (f + f)) 1)
    (xr : FVec Ideal (Mat 256 f) .f32) (xa : FVec Ideal (Mat 8192 f) .f32) (d : FVec Ideal S256x8192 .f32)
    (hx : ∀ j l, IsReal (xa (ix2 j l))) (r : Fin 256) (l : Fin (f + f)) :
    edges f hc xr xa d (ix2 r l) = feat (fun l => xr (ix2 r l))
      (fun l => xa (ix2 (firstMin (N := 8191) fun k : Fin 8192 => d (ix2 r k)) l)) l := by
  pointwise [edges, matmul3, part1, part2, part3, rest1, bigs]
  simp only [mark_apply]
  have e0 : ∀ j, xa (ix2 j (⟨l.val - f, by omega⟩ : Fin f)) - xa (ix2 j ⟨l.val - f, by omega⟩) = 0 :=
    fun j => (hx j _).sub_self
  have e1 : ∀ j k : Fin 8192, FloatOps.sitofp (F := Ideal) FTy.f32 (BitVec.setWidth 32 (if j = k then 1#1 else 0#1))
      = if j = k then (1 : EReal) else 0 := fun j k => by
    split <;> simp [FloatOps.sitofp]
  unfold feat
  split
  · rfl
  · simp only [e0]
    simp [e1]

/-- The perceptron on each row. -/
theorem percept_apply (g : ℕ) (e : FVec Ideal (Mat 256 g) .f32) (w1 : FVec Ideal (Mat g 64) .f32)
    (b1 : FVec Ideal S1x64 .f32) (w2 : FVec Ideal S64x64 .f32) (b2 : FVec Ideal S1x64 .f32) (r : Fin 256) (c : Fin 64) :
    percept g e w1 b1 w2 b2 (ix2 r c) = mlp (fun l => e (ix2 r l)) (fun l k => w1 (ix2 l k)) (fun k => b1 (ix2 0 k))
      (fun l k => w2 (ix2 l k)) (fun k => b2 (ix2 0 k)) c := by
  pointwise [percept, part1]
  simp only [dotP]
  pointwise [mlp, hidden]

/-- What each edge-convolution call leaves is the layer. -/
theorem running_apply (f : ℕ) (hr : (Mat 256 f).Reduces [1] S256)
    (hc : Shape.Concatenates [Mat 256 f, Mat 256 f] (Mat 256 (f + f)) 1)
    (xr : FVec Ideal (Mat 256 f) .f32) (xa : FVec Ideal (Mat 8192 f) .f32) (br : FVec Ideal S256x1 .f32)
    (bc : FVec Ideal S1x8192 .f32) (w1 : FVec Ideal (Mat (f + f) 64) .f32) (b1 : FVec Ideal S1x64 .f32)
    (w2 : FVec Ideal S64x64 .f32) (b2 : FVec Ideal S1x64 .f32) (hx : ∀ j l, IsReal (xa (ix2 j l)))
    (r : Fin 256) (c : Fin 64) :
    running f hr hc xr xa br bc w1 b1 w2 b2 30 (ix2 r c) = layer (fun l => xr (ix2 r l)) (br (ix2 r 0))
      (fun j l => xa (ix2 j l)) (fun j => bc (ix2 0 j)) (fun l k => w1 (ix2 l k)) (fun k => b1 (ix2 0 k))
      (fun l k => w2 (ix2 l k)) (fun k => b2 (ix2 0 k)) c := by
  have step : ∀ n, running f hr hc xr xa br bc w1 b1 w2 b2 n (ix2 r c)
      = runMax (Ideal.ofBits .f32 0xFF61B1E6#32) (fun n => edgeOut (fun l => xr (ix2 r l)) (br (ix2 r 0))
          (fun j l => xa (ix2 j l)) (fun j => bc (ix2 0 j)) (fun l k => w1 (ix2 l k)) (fun k => b1 (ix2 0 k))
          (fun l k => w2 (ix2 l k)) (fun k => b2 (ix2 0 k)) n c) n := fun n => by
    induction n with
    | zero => rfl
    | succ n ih =>
      rw [runMax, ← ih]
      refine congrArg (max _) ?_
      rw [percept_apply]
      simp only [edges_apply f hc xr xa _ hx, knockRows_iterate, distances_apply f hr xr xa br bc hx]
      rfl
  rw [step, runMax_eq_sup, sup_range_eq_univ, layer]
  refine le_trans ?_ (edgeOut_nonneg _ _ _ _ _ _ _ _ _ _)
  exact lowest_nonpos

end Cert.Dgcnn
-- ==== Proof.Layers.lean ====
/-
  THE THREE EDGE-CONVOLUTION CALLS. From the body's block at one grid point to the array after the whole grid: row `r` of
  the array a call leaves is the layer at point `r`, over the arrays the call finds.
-/
module

public import proofs.«01_k».proof.Proof.Rows
public import Idealize.ShloMosaic.Lib.Pipeline.ValueKit

@[expose] public section

set_option maxRecDepth 16384

noncomputable section

namespace Cert.Dgcnn

open Idealize.ShloMosaic Idealize.ShloMosaic.TcCoe Idealize.SL.Sem Cert.KernelIdeal Cert.KernelIdeal.Gen
open Idealize.ShloMosaic.Pipeline (Dat)

/-- The layer at every point, over a call's arrays: the points, their groups as a column and as a row, the weights. -/
def layerArr {f : ℕ} (x : FVec Ideal (Mat 8192 f) .f32) (br : FVec Ideal S8192x1 .f32) (bc : FVec Ideal S1x8192 .f32)
    (w1 : FVec Ideal (Mat (f + f) 64) .f32) (b1 : FVec Ideal S1x64 .f32) (w2 : FVec Ideal S64x64 .f32)
    (b2 : FVec Ideal S1x64 .f32) : FVec Ideal S8192x64 .f32 := fun i =>
  layer (fun l => x (ix2 (i 0) l)) (br (ix2 (i 0) 0)) (fun j l => x (ix2 j l)) (fun j => bc (ix2 0 j))
    (fun l k => w1 (ix2 l k)) (fun k => b1 (ix2 0 k)) (fun l k => w2 (ix2 l k)) (fun k => b2 (ix2 0 k)) (i 1)

variable (V : (c : Dev nD) → (b : Ref sig .tc) → Buf (Elt Ideal) ((c : Thread nD τ).loc b))

theorem idx0 : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![t.val, 0] := (by decide +kernel : ∀ t : Fin grid0.N, _)

/-- The array the first layer's call leaves. -/
theorem layer1_array (c : Dev nD) (hx : ∀ j l, IsReal ((V c main_arg0 : FVec Ideal S8192x14 .f32) (ix2 j l))) :
    (dat0 V c).arrAt 8 cfg0.N = layerArr (f := 14) (V c main_arg0) (V c main_call0_v1) (V c main_call0_v2) (V c main_arg2)
      (V c main_call0_v3) (V c main_arg4) (V c main_call0_v4) := by
  refine (dat0 V c).arrAt_eq_of_covers 8 _ (by decide +kernel) fun t hf y => ?_
  blk_simp
  rw [after0_8, out0_eq]
  frame_out
  have h1 : iblk0 V c 1 t = V c main_arg0 := by blk_ext! [iblk0, idx0 t]
  have h3 : iblk0 V c 3 t = V c main_call0_v2 := by blk_ext! [iblk0, idx0 t]
  have h4 : iblk0 V c 4 t = V c main_arg2 := by blk_ext! [iblk0, idx0 t]
  have h5 : iblk0 V c 5 t = V c main_call0_v3 := by blk_ext! [iblk0, idx0 t]
  have h6 : iblk0 V c 6 t = V c main_arg4 := by blk_ext! [iblk0, idx0 t]
  have h7 : iblk0 V c 7 t = V c main_call0_v4 := by blk_ext! [iblk0, idx0 t]
  rw [h1, h3, h4, h5, h6, h7]
  obtain ⟨r, k, rfl⟩ : ∃ (r : Fin 256) (k : Fin 64), y = ix2 r k := ⟨y 0, y 1, by idx_vars y⟩
  have ht : t.val < 32 := t.isLt
  have e : (((View.whole main_call0_v5).slice (win0_8.rect t)).emb (ix2 r k))
      = (ix2 ⟨t.val * 256 + r.val, by omega⟩ k : S8192x64.Idx) := by blk_ext [idx0 t]
  have h0 : ∀ l : Fin 14, iblk0 V c 0 t (ix2 r l) = V c main_arg0 (ix2 ⟨t.val * 256 + r.val, by omega⟩ l) := fun l => by
    blk_ext [iblk0, idx0 t]
  have h2 : iblk0 V c 2 t (ix2 r 0) = V c main_call0_v1 (ix2 ⟨t.val * 256 + r.val, by omega⟩ 0) := by
    blk_ext [iblk0, idx0 t]
  refine (running_apply 14 _ _ _ _ _ _ _ _ _ _ hx r k).trans ?_
  rw [e]
  unfold layerArr
  simp only [h0, h2]
  rfl

/-- The reads of the second and third layers' points reshape to the shape they have. -/
theorem pay2_eq (x : FVec Ideal S256x64 .f32) : k1_pay2 x = x := shapeCast_self _ _

theorem pay3_eq (x : FVec Ideal S8192x64 .f32) : k1_pay3 x = x := shapeCast_self _ _

theorem idx1 : ∀ t : Fin cfg1.N, win1_0.index t = ![t.val, 0] ∧ win1_1.index t = ![0, 0] ∧ win1_2.index t = ![t.val, 0]
    ∧ win1_3.index t = ![0, 0] ∧ win1_4.index t = ![0, 0] ∧ win1_5.index t = ![0, 0] ∧ win1_6.index t = ![0, 0]
    ∧ win1_7.index t = ![0, 0] ∧ win1_8.index t = ![t.val, 0] := (by decide +kernel : ∀ t : Fin grid1.N, _)

/-- The array the second layer's call leaves. -/
theorem layer2_array (c : Dev nD) (hx : ∀ j l, IsReal ((V c main_call0_v5 : FVec Ideal S8192x64 .f32) (ix2 j l))) :
    (dat1 V c).arrAt 8 cfg1.N = layerArr (f := 64) (V c main_call0_v5) (V c main_call0_v1) (V c main_call0_v2) (V c main_arg6)
      (V c main_call0_v6) (V c main_arg8) (V c main_call0_v7) := by
  refine (dat1 V c).arrAt_eq_of_covers 8 _ (by decide +kernel) fun t hf y => ?_
  blk_simp
  rw [after1_8, out1_eq]
  frame_out
  have h1 : iblk1 V c 1 t = V c main_call0_v5 := by blk_ext! [iblk1, idx1 t]
  have h3 : iblk1 V c 3 t = V c main_call0_v2 := by blk_ext! [iblk1, idx1 t]
  have h4 : iblk1 V c 4 t = V c main_arg6 := by blk_ext! [iblk1, idx1 t]
  have h5 : iblk1 V c 5 t = V c main_call0_v6 := by blk_ext! [iblk1, idx1 t]
  have h6 : iblk1 V c 6 t = V c main_arg8 := by blk_ext! [iblk1, idx1 t]
  have h7 : iblk1 V c 7 t = V c main_call0_v7 := by blk_ext! [iblk1, idx1 t]
  rw [pay2_eq, pay3_eq, h1, h3, h4, h5, h6, h7]
  obtain ⟨r, k, rfl⟩ : ∃ (r : Fin 256) (k : Fin 64), y = ix2 r k := ⟨y 0, y 1, by idx_vars y⟩
  have ht : t.val < 32 := t.isLt
  have e : (((View.whole main_call0_v8).slice (win1_8.rect t)).emb (ix2 r k))
      = (ix2 ⟨t.val * 256 + r.val, by omega⟩ k : S8192x64.Idx) := by blk_ext [idx1 t]
  have h0 : ∀ l : Fin 64, iblk1 V c 0 t (ix2 r l) = V c main_call0_v5 (ix2 ⟨t.val * 256 + r.val, by omega⟩ l) := fun l => by
    blk_ext [iblk1, idx1 t]
  have h2 : iblk1 V c 2 t (ix2 r 0) = V c main_call0_v1 (ix2 ⟨t.val * 256 + r.val, by omega⟩ 0) := by
    blk_ext [iblk1, idx1 t]
  refine (running_apply 64 _ _ _ _ _ _ _ _ _ _ hx r k).trans ?_
  rw [e]
  unfold layerArr
  simp only [h0, h2]
  rfl

theorem idx2 : ∀ t : Fin cfg2.N, win2_0.index t = ![t.val, 0] ∧ win2_1.index t = ![0, 0] ∧ win2_2.index t = ![t.val, 0]
    ∧ win2_3.index t = ![0, 0] ∧ win2_4.index t = ![0, 0] ∧ win2_5.index t = ![0, 0] ∧ win2_6.index t = ![0, 0]
    ∧ win2_7.index t = ![0, 0] ∧ win2_8.index t = ![t.val, 0] := (by decide +kernel : ∀ t : Fin grid2.N, _)

/-- The array the third layer's call leaves. -/
theorem layer3_array (c : Dev nD) (hx : ∀ j l, IsReal ((V c main_call0_v8 : FVec Ideal S8192x64 .f32) (ix2 j l))) :
    (dat2 V c).arrAt 8 cfg2.N = layerArr (f := 64) (V c main_call0_v8) (V c main_call0_v1) (V c main_call0_v2) (V c main_arg10)
      (V c main_call0_v9) (V c main_arg12) (V c main_call0_v10) := by
  refine (dat2 V c).arrAt_eq_of_covers 8 _ (by decide +kernel) fun t hf y => ?_
  blk_simp
  rw [after2_8, out2_eq]
  frame_out
  have h1 : iblk2 V c 1 t = V c main_call0_v8 := by blk_ext! [iblk2, idx2 t]
  have h3 : iblk2 V c 3 t = V c main_call0_v2 := by blk_ext! [iblk2, idx2 t]
  have h4 : iblk2 V c 4 t = V c main_arg10 := by blk_ext! [iblk2, idx2 t]
  have h5 : iblk2 V c 5 t = V c main_call0_v9 := by blk_ext! [iblk2, idx2 t]
  have h6 : iblk2 V c 6 t = V c main_arg12 := by blk_ext! [iblk2, idx2 t]
  have h7 : iblk2 V c 7 t = V c main_call0_v10 := by blk_ext! [iblk2, idx2 t]
  rw [pay2_eq, pay3_eq, h1, h3, h4, h5, h6, h7]
  obtain ⟨r, k, rfl⟩ : ∃ (r : Fin 256) (k : Fin 64), y = ix2 r k := ⟨y 0, y 1, by idx_vars y⟩
  have ht : t.val < 32 := t.isLt
  have e : (((View.whole main_call0_v11).slice (win2_8.rect t)).emb (ix2 r k))
      = (ix2 ⟨t.val * 256 + r.val, by omega⟩ k : S8192x64.Idx) := by blk_ext [idx2 t]
  have h0 : ∀ l : Fin 64, iblk2 V c 0 t (ix2 r l) = V c main_call0_v8 (ix2 ⟨t.val * 256 + r.val, by omega⟩ l) := fun l => by
    blk_ext [iblk2, idx2 t]
  have h2 : iblk2 V c 2 t (ix2 r 0) = V c main_call0_v1 (ix2 ⟨t.val * 256 + r.val, by omega⟩ 0) := by
    blk_ext [iblk2, idx2 t]
  refine (running_apply 64 _ _ _ _ _ _ _ _ _ _ hx r k).trans ?_
  rw [e]
  unfold layerArr
  simp only [h0, h2]
  rfl

end Cert.Dgcnn
-- ==== Proof.Head.lean ====
/-
  THE HEAD'S CALL. Row `r` of the array it leaves is the head at point `r`, over the arrays the call finds.
-/
module

public import proofs.«01_k».proof.Proof.Rows
public import Idealize.ShloMosaic.Lib.Pipeline.ValueKit

@[expose] public section

set_option maxRecDepth 16384

noncomputable section

namespace Cert.Dgcnn

open Idealize.ShloMosaic Idealize.ShloMosaic.TcCoe Idealize.SL.Sem Cert.KernelIdeal Cert.KernelIdeal.Gen
open Idealize.ShloMosaic.Pipeline (Dat)

/-- The head at one row of three feature matrices. -/
def headRow (p q s : Fin 64 → EReal) (wp wq ws : FVec Ideal S64x1024 .f32) (bl : FVec Ideal S1x1024 .f32)
    (wm : FVec Ideal S1024x256 .f32) (bm : FVec Ideal S1x256 .f32) (wn : FVec Ideal S256x128 .f32)
    (bn : FVec Ideal S1x128 .f32) (wo : FVec Ideal S128x64 .f32) (bo : FVec Ideal S1x64 .f32) : Fin 64 → EReal :=
  dense (fun k c => wo (ix2 k c)) (fun c => bo (ix2 0 c)) (relu (dense (fun k c => wn (ix2 k c)) (fun c => bn (ix2 0 c))
    (relu (dense (fun k c => wm (ix2 k c)) (fun c => bm (ix2 0 c)) (relu fun c =>
      ∑ k, p k * wp (ix2 k c) + ∑ k, q k * wq (ix2 k c) + ∑ k, s k * ws (ix2 k c) + bl (ix2 0 c))))))

/-- The body at one row of its block. -/
theorem head_apply (x0 x1 x2 : FVec Ideal S256x64 .f32) (wp wq ws : FVec Ideal S64x1024 .f32) (bl : FVec Ideal S1x1024 .f32)
    (wm : FVec Ideal S1024x256 .f32) (bm : FVec Ideal S1x256 .f32) (wn : FVec Ideal S256x128 .f32)
    (bn : FVec Ideal S1x128 .f32) (wo : FVec Ideal S128x64 .f32) (bo : FVec Ideal S1x64 .f32) (r : Fin 256) (k : Fin 64) :
    k3_pay1 (F := Ideal) (k3_pay2 x0 wp x1 wq x2 ws bl wm) (k3_pay3 bm) wn bn wo bo (ix2 r k)
      = headRow (fun k => x0 (ix2 r k)) (fun k => x1 (ix2 r k)) (fun k => x2 (ix2 r k)) wp wq ws bl wm bm wn bn wo bo k := by
  pointwise [k3_pay1, k3_pay2, k3_pay3, headRow, dense, relu]

variable (V : (c : Dev nD) → (b : Ref sig .tc) → Buf (Elt Ideal) ((c : Thread nD τ).loc b))

theorem idx3 : ∀ t : Fin cfg3.N, win3_0.index t = ![t.val, 0] ∧ win3_1.index t = ![t.val, 0]
    ∧ win3_2.index t = ![t.val, 0] ∧ win3_3.index t = ![0, 0] ∧ win3_4.index t = ![0, 0] ∧ win3_5.index t = ![0, 0]
    ∧ win3_6.index t = ![0, 0] ∧ win3_7.index t = ![0, 0] ∧ win3_8.index t = ![0, 0] ∧ win3_9.index t = ![0, 0]
    ∧ win3_10.index t = ![0, 0] ∧ win3_11.index t = ![0, 0] ∧ win3_12.index t = ![0, 0]
    ∧ win3_13.index t = ![t.val, 0] := (by decide +kernel : ∀ t : Fin grid3.N, _)

set_option maxHeartbeats 1600000 in
/-- The array the head's call leaves. -/
theorem head_array (c : Dev nD) : (dat3 V c).arrAt 13 cfg3.N = (fun i => headRow
      (fun k => (V c main_call0_v5 : FVec Ideal S8192x64 .f32) (ix2 (i 0) k))
      (fun k => (V c main_call0_v8 : FVec Ideal S8192x64 .f32) (ix2 (i 0) k))
      (fun k => (V c main_call0_v11 : FVec Ideal S8192x64 .f32) (ix2 (i 0) k)) (V c main_call0_v12) (V c main_call0_v13)
      (V c main_call0_v14) (V c main_call0_v15) (V c main_arg16) (V c main_call0_v16) (V c main_arg18)
      (V c main_call0_v17) (V c main_arg20) (V c main_call0_v18) (i 1) : FVec Ideal S8192x64 .f32) := by
  refine (dat3 V c).arrAt_eq_of_covers 13 _ (by decide +kernel) fun t hf y => ?_
  blk_simp
  rw [after3_13]
  frame_out
  have h3 : iblk3 V c 3 t = V c main_call0_v12 := by blk_ext! [iblk3, idx3 t]
  have h4 : iblk3 V c 4 t = V c main_call0_v13 := by blk_ext! [iblk3, idx3 t]
  have h5 : iblk3 V c 5 t = V c main_call0_v14 := by blk_ext! [iblk3, idx3 t]
  have h6 : iblk3 V c 6 t = V c main_call0_v15 := by blk_ext! [iblk3, idx3 t]
  have h7 : iblk3 V c 7 t = V c main_arg16 := by blk_ext! [iblk3, idx3 t]
  have h8 : iblk3 V c 8 t = V c main_call0_v16 := by blk_ext! [iblk3, idx3 t]
  have h9 : iblk3 V c 9 t = V c main_arg18 := by blk_ext! [iblk3, idx3 t]
  have h10 : iblk3 V c 10 t = V c main_call0_v17 := by blk_ext! [iblk3, idx3 t]
  have h11 : iblk3 V c 11 t = V c main_arg20 := by blk_ext! [iblk3, idx3 t]
  have h12 : iblk3 V c 12 t = V c main_call0_v18 := by blk_ext! [iblk3, idx3 t]
  rw [h3, h4, h5, h6, h7, h8, h9, h10, h11, h12]
  obtain ⟨r, k, rfl⟩ : ∃ (r : Fin 256) (k : Fin 64), y = ix2 r k := ⟨y 0, y 1, by idx_vars y⟩
  have ht : t.val < 32 := t.isLt
  have e : (((View.whole main_v0).slice (win3_13.rect t)).emb (ix2 r k))
      = (ix2 ⟨t.val * 256 + r.val, by omega⟩ k : S8192x64.Idx) := by blk_ext [idx3 t]
  have h0 : ∀ l : Fin 64, iblk3 V c 0 t (ix2 r l) = V c main_call0_v5 (ix2 ⟨t.val * 256 + r.val, by omega⟩ l) :=
    fun l => by blk_ext [iblk3, idx3 t]
  have h1 : ∀ l : Fin 64, iblk3 V c 1 t (ix2 r l) = V c main_call0_v8 (ix2 ⟨t.val * 256 + r.val, by omega⟩ l) :=
    fun l => by blk_ext [iblk3, idx3 t]
  have h2 : ∀ l : Fin 64, iblk3 V c 2 t (ix2 r l) = V c main_call0_v11 (ix2 ⟨t.val * 256 + r.val, by omega⟩ l) :=
    fun l => by blk_ext [iblk3, idx3 t]
  refine (head_apply _ _ _ _ _ _ _ _ _ _ _ _ _ r k).trans ?_
  rw [e]
  simp only [h0, h1, h2]
  rfl

end Cert.Dgcnn
-- ==== Proof.HostReads.lean ====
/-
  WHAT THE HOST LINES BETWEEN THE CALLS LEAVE, and which buffers pass through a call or a stretch of host lines unchanged.
-/
module

public import proofs.«01_k».proof.Proof.Gen.KernelIdeal.Frame
public import Idealize.ShloMosaic.Lib.Claim

@[expose] public section

set_option maxRecDepth 16384

noncomputable section

namespace Cert.Dgcnn

open Idealize.ShloMosaic Idealize.ShloMosaic.TcCoe Idealize.SL.Sem Cert.KernelIdeal Cert.KernelIdeal.Gen

variable (σ : Valuation τ sig (Elt Ideal))

/-- The groups as numbers, a column. -/
theorem read_col : StableHlo.after hostOps0 σ (Proc.devRef .tc main_call0_v1)
    = shapeCast S8192x1 (sitofp (F := Ideal) .f32 (σ (Proc.devRef .tc main_arg1) : IVec S8192 32)) shapeCasts_S8192_S8192x1 := by
  entry_read
  rfl

/-- The groups as numbers, a row. -/
theorem read_row : StableHlo.after hostOps0 σ (Proc.devRef .tc main_call0_v2)
    = shapeCast S1x8192 (sitofp (F := Ideal) .f32 (σ (Proc.devRef .tc main_arg1) : IVec S8192 32)) shapeCasts_S8192_S1x8192 := by
  entry_read
  rfl

/-- A bias as one row. -/
theorem read_v3 : StableHlo.after hostOps0 σ (Proc.devRef .tc main_call0_v3)
    = shapeCast S1x64 (σ (Proc.devRef .tc main_arg3) : FVec Ideal S64 .f32) shapeCasts_S64_S1x64 := by
  entry_read
  rfl

/-- A bias as one row. -/
theorem read_v4 : StableHlo.after hostOps0 σ (Proc.devRef .tc main_call0_v4)
    = shapeCast S1x64 (σ (Proc.devRef .tc main_arg5) : FVec Ideal S64 .f32) shapeCasts_S64_S1x64 := by
  entry_read
  rfl

/-- A bias as one row. -/
theorem read_v6 : StableHlo.after hostOps1 σ (Proc.devRef .tc main_call0_v6)
    = shapeCast S1x64 (σ (Proc.devRef .tc main_arg7) : FVec Ideal S64 .f32) shapeCasts_S64_S1x64 := by
  entry_read
  rfl

/-- A bias as one row. -/
theorem read_v7 : StableHlo.after hostOps1 σ (Proc.devRef .tc main_call0_v7)
    = shapeCast S1x64 (σ (Proc.devRef .tc main_arg9) : FVec Ideal S64 .f32) shapeCasts_S64_S1x64 := by
  entry_read
  rfl

/-- A bias as one row. -/
theorem read_v9 : StableHlo.after hostOps2 σ (Proc.devRef .tc main_call0_v9)
    = shapeCast S1x64 (σ (Proc.devRef .tc main_arg11) : FVec Ideal S64 .f32) shapeCasts_S64_S1x64 := by
  entry_read
  rfl

/-- A bias as one row. -/
theorem read_v10 : StableHlo.after hostOps2 σ (Proc.devRef .tc main_call0_v10)
    = shapeCast S1x64 (σ (Proc.devRef .tc main_arg13) : FVec Ideal S64 .f32) shapeCasts_S64_S1x64 := by
  entry_read
  rfl

/-- A bias as one row. -/
theorem read_v15 : StableHlo.after hostOps3 σ (Proc.devRef .tc main_call0_v15)
    = shapeCast S1x1024 (σ (Proc.devRef .tc main_arg15) : FVec Ideal S1024 .f32) shapeCasts_S1024_S1x1024 := by
  entry_read
  rfl

/-- A bias as one row. -/
theorem read_v16 : StableHlo.after hostOps3 σ (Proc.devRef .tc main_call0_v16)
    = shapeCast S1x256 (σ (Proc.devRef .tc main_arg17) : FVec Ideal S256 .f32) shapeCasts_S256_S1x256 := by
  entry_read
  rfl

/-- A bias as one row. -/
theorem read_v17 : StableHlo.after hostOps3 σ (Proc.devRef .tc main_call0_v17)
    = shapeCast S1x128 (σ (Proc.devRef .tc main_arg19) : FVec Ideal S128 .f32) shapeCasts_S128_S1x128 := by
  entry_read
  rfl

/-- A bias as one row. -/
theorem read_v18 : StableHlo.after hostOps3 σ (Proc.devRef .tc main_call0_v18)
    = shapeCast S1x64 (σ (Proc.devRef .tc main_arg21) : FVec Ideal S64 .f32) shapeCasts_S64_S1x64 := by
  entry_read
  rfl

/-- A third of the head's first weights. -/
theorem read_v12 : StableHlo.after hostOps3 σ (Proc.devRef .tc main_call0_v12)
    = extractStridedSlice S64x1024 ![0, 0] (σ (Proc.devRef .tc main_arg14) : FVec Ideal S192x1024 .f32) slices_S192x1024_S64x1024_0_0 := by
  entry_read
  rfl

/-- A third of the head's first weights. -/
theorem read_v13 : StableHlo.after hostOps3 σ (Proc.devRef .tc main_call0_v13)
    = extractStridedSlice S64x1024 ![64, 0] (σ (Proc.devRef .tc main_arg14) : FVec Ideal S192x1024 .f32) slices_S192x1024_S64x1024_64_0 := by
  entry_read
  rfl

/-- A third of the head's first weights. -/
theorem read_v14 : StableHlo.after hostOps3 σ (Proc.devRef .tc main_call0_v14)
    = extractStridedSlice S64x1024 ![128, 0] (σ (Proc.devRef .tc main_arg14) : FVec Ideal S192x1024 .f32) slices_S192x1024_S64x1024_128_0 := by
  entry_read
  rfl

end Cert.Dgcnn
-- ==== Proof.KernelRun.lean ====
/-
  THE KERNEL'S RUN WITH ITS RESULT. The four calls and the host lines between them, composed: on real numbers the result
  array holds the network's output at every point.
-/
module

public import proofs.«01_k».proof.Proof.Layers
public import proofs.«01_k».proof.Proof.Head
public import proofs.«01_k».proof.Proof.HostReads
public import Idealize.ShloMosaic.Lib.ValueLayout

@[expose] public section

set_option maxRecDepth 16384

noncomputable section

namespace Cert.Dgcnn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

/-- A matrix's entries. -/
abbrev ent {a b : ℕ} (x : FVec Ideal (Mat a b) .f32) : Fin a → Fin b → EReal := fun i j => x (ix2 i j)

/-- A vector's entries. -/
abbrev ent1 {a : ℕ} (x : FVec Ideal ⟨1, ![a]⟩ .f32) : Fin a → EReal := fun i => x (ix1 i)

/-- The network's inputs, read off the argument arrays. -/
def inputsOf (a0 : FVec Ideal (Mat 8192 14) .f32) (a1 : IVec ⟨1, ![8192]⟩ 32) (a2 : FVec Ideal (Mat 28 64) .f32)
    (a3 : FVec Ideal ⟨1, ![64]⟩ .f32) (a4 : FVec Ideal (Mat 64 64) .f32) (a5 : FVec Ideal ⟨1, ![64]⟩ .f32)
    (a6 : FVec Ideal (Mat 128 64) .f32) (a7 : FVec Ideal ⟨1, ![64]⟩ .f32) (a8 : FVec Ideal (Mat 64 64) .f32)
    (a9 : FVec Ideal ⟨1, ![64]⟩ .f32) (a10 : FVec Ideal (Mat 128 64) .f32) (a11 : FVec Ideal ⟨1, ![64]⟩ .f32)
    (a12 : FVec Ideal (Mat 64 64) .f32) (a13 : FVec Ideal ⟨1, ![64]⟩ .f32) (a14 : FVec Ideal (Mat 192 1024) .f32)
    (a15 : FVec Ideal ⟨1, ![1024]⟩ .f32) (a16 : FVec Ideal (Mat 1024 256) .f32) (a17 : FVec Ideal ⟨1, ![256]⟩ .f32)
    (a18 : FVec Ideal (Mat 256 128) .f32) (a19 : FVec Ideal ⟨1, ![128]⟩ .f32) (a20 : FVec Ideal (Mat 128 64) .f32)
    (a21 : FVec Ideal ⟨1, ![64]⟩ .f32) : Inputs :=
  { X := ent a0, B := ent1 (sitofp .f32 a1), W1a := ent a2, b1a := ent1 a3, W1b := ent a4, b1b := ent1 a5, W2a := ent a6,
    b2a := ent1 a7, W2b := ent a8, b2b := ent1 a9, W3a := ent a10, b3a := ent1 a11, W3b := ent a12, b3b := ent1 a13,
    Wl := ent a14, bl := ent1 a15, Wm := ent a16, bm := ent1 a17, Wn := ent a18, bn := ent1 a19, Wo := ent a20,
    bo := ent1 a21 }

/-- A matrix with given entries. -/
abbrev mat {a b : ℕ} (g : Fin a → Fin b → EReal) : FVec Ideal (Mat a b) .f32 := fun i => g (i 0) (i 1)

theorem row_apply {n : ℕ} (g : FVec Ideal ⟨1, ![n]⟩ .f32) (h : (⟨1, ![n]⟩ : Shape).ShapeCasts (Mat 1 n)) (i : Fin n) :
    shapeCast (Mat 1 n) g h (ix2 0 i) = g (ix1 i) := by
  rw [ix2_eq_valueIdx, ix1_eq_valueIdx]
  exact ValueIdx.shapeCast_a_1a_apply g h 0 i

theorem col_apply (g : FVec Ideal S8192 .f32) (i : Fin 8192) :
    shapeCast S8192x1 g shapeCasts_S8192_S8192x1 (ix2 i 0) = g (ix1 i) := by
  pointwise

/-- A call's layer over the reshaped groups and biases. -/
theorem layerArr_reshaped {f : ℕ} (X : Fin 8192 → Fin f → EReal) (g : FVec Ideal S8192 .f32)
    (w1 : FVec Ideal (Mat (f + f) 64) .f32)
    (b1 : FVec Ideal S64 .f32) (w2 : FVec Ideal S64x64 .f32) (b2 : FVec Ideal S64 .f32) :
    layerArr (mat X) (shapeCast S8192x1 g shapeCasts_S8192_S8192x1) (shapeCast S1x8192 g shapeCasts_S8192_S1x8192) w1
      (shapeCast S1x64 b1 shapeCasts_S64_S1x64) w2 (shapeCast S1x64 b2 shapeCasts_S64_S1x64)
      = mat (layerAll X (ent1 g) (ent w1) (ent1 b1) (ent w2) (ent1 b2)) := by
  funext i
  obtain ⟨r, k, rfl⟩ : ∃ (r : Fin 8192) (k : Fin 64), i = ix2 r k := ⟨i 0, i 1, by idx_vars i⟩
  show layer (fun l => mat X (ix2 r l)) (shapeCast S8192x1 g shapeCasts_S8192_S8192x1 (ix2 r 0)) _ _ _ _ _ _ k = _
  simp only [col_apply, row_apply]
  rfl

variable (m : (ℓ : Loc nD τ sig) → Buf (Elt Ideal) ℓ) (ρ : Dev nD → PrngReg) (c : Dev nD)

/-- The network's inputs in the kernel's memory. -/
abbrev inputs : Inputs :=
  inputsOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15)) (m ((c : Thread nD τ).loc main_arg16)) (m ((c : Thread nD τ).loc main_arg17))
    (m ((c : Thread nD τ).loc main_arg18)) (m ((c : Thread nD τ).loc main_arg19)) (m ((c : Thread nD τ).loc main_arg20))
    (m ((c : Thread nD τ).loc main_arg21))

/-- The groups as numbers. -/
abbrev groups : FVec Ideal S8192 .f32 := sitofp .f32 (m ((c : Thread nD τ).loc main_arg1) : IVec S8192 32)

theorem W1_col : W1 m ρ c (Proc.devRef .tc main_call0_v1) = shapeCast S8192x1 (groups m c) shapeCasts_S8192_S8192x1 :=
  read_col _

theorem W1_row : W1 m ρ c (Proc.devRef .tc main_call0_v2) = shapeCast S1x8192 (groups m c) shapeCasts_S8192_S1x8192 :=
  read_row _

/-- The groups' column and row reach the second and third calls. -/
theorem W3_col : W3 m ρ c (Proc.devRef .tc main_call0_v1) = shapeCast S8192x1 (groups m c) shapeCasts_S8192_S8192x1 :=
  (W3_of m ρ c main_call0_v1 (by decide)).trans <| (W2_of m ρ c main_call0_v1 (by decide)).trans (W1_col m ρ c)

theorem W3_row : W3 m ρ c (Proc.devRef .tc main_call0_v2) = shapeCast S1x8192 (groups m c) shapeCasts_S8192_S1x8192 :=
  (W3_of m ρ c main_call0_v2 (by decide)).trans <| (W2_of m ρ c main_call0_v2 (by decide)).trans (W1_row m ρ c)

theorem W5_col : W5 m ρ c (Proc.devRef .tc main_call0_v1) = shapeCast S8192x1 (groups m c) shapeCasts_S8192_S8192x1 :=
  (W5_of m ρ c main_call0_v1 (by decide)).trans <| (W4_of m ρ c main_call0_v1 (by decide)).trans (W3_col m ρ c)

theorem W5_row : W5 m ρ c (Proc.devRef .tc main_call0_v2) = shapeCast S1x8192 (groups m c) shapeCasts_S8192_S1x8192 :=
  (W5_of m ρ c main_call0_v2 (by decide)).trans <| (W4_of m ρ c main_call0_v2 (by decide)).trans (W3_row m ρ c)

/-- Every matrix is the matrix of its entries. -/
theorem mat_ent {a b : ℕ} (x : FVec Ideal (Mat a b) .f32) : mat (ent x) = x := by
  funext i
  exact congrArg x (funext fun a => match a with | ⟨0, _⟩ => rfl | ⟨1, _⟩ => rfl)

/-- The points after the first call. -/
theorem W2_x1 (hI : (inputs m c).Real) : W2 m ρ c (Proc.devRef .tc main_call0_v5) = mat (inputs m c).x1 := by
  refine (W2_arr m ρ c 8).trans ?_
  have a0 : V1 m ρ c main_arg0 = mat (inputs m c).X := (W1_args m ρ c main_arg0 (by decide)).trans (mat_ent _).symm
  refine (layer1_array (V1 m ρ) c (fun j l => by rw [a0]; exact hI.X j l)).trans ?_
  rw [a0, show V1 m ρ c main_call0_v1 = _ from W1_col m ρ c, show V1 m ρ c main_call0_v2 = _ from W1_row m ρ c,
    show V1 m ρ c main_arg2 = _ from W1_args m ρ c main_arg2 (by decide),
    show V1 m ρ c main_arg4 = _ from W1_args m ρ c main_arg4 (by decide),
    show V1 m ρ c main_call0_v3 = _ from read_v3 _, show V1 m ρ c main_call0_v4 = _ from read_v4 _]
  exact layerArr_reshaped (f := 14) _ _ _ _ _ _

/-- The points after the second call. -/
theorem W4_x2 (hI : (inputs m c).Real) : W4 m ρ c (Proc.devRef .tc main_call0_v8) = mat (inputs m c).x2 := by
  refine (W4_arr m ρ c 8).trans ?_
  have a0 : V3 m ρ c main_call0_v5 = mat (inputs m c).x1 :=
    (W3_of m ρ c main_call0_v5 (by decide)).trans (W2_x1 m ρ c hI)
  refine (layer2_array (V3 m ρ) c (fun j l => by rw [a0]; exact hI.x1 j l)).trans ?_
  rw [a0, show V3 m ρ c main_call0_v1 = _ from W3_col m ρ c, show V3 m ρ c main_call0_v2 = _ from W3_row m ρ c,
    show V3 m ρ c main_arg6 = _ from W3_args m ρ c main_arg6 (by decide),
    show V3 m ρ c main_arg8 = _ from W3_args m ρ c main_arg8 (by decide),
    show V3 m ρ c main_call0_v6 = _ from read_v6 _, show V3 m ρ c main_call0_v7 = _ from read_v7 _,
    W2_args m ρ c main_arg7 (by decide), W2_args m ρ c main_arg9 (by decide)]
  exact layerArr_reshaped (f := 64) _ _ _ _ _ _

/-- The points after the third call. -/
theorem W6_x3 (hI : (inputs m c).Real) : W6 m ρ c (Proc.devRef .tc main_call0_v11) = mat (inputs m c).x3 := by
  refine (W6_arr m ρ c 8).trans ?_
  have a0 : V5 m ρ c main_call0_v8 = mat (inputs m c).x2 :=
    (W5_of m ρ c main_call0_v8 (by decide)).trans (W4_x2 m ρ c hI)
  refine (layer3_array (V5 m ρ) c (fun j l => by rw [a0]; exact hI.x2 j l)).trans ?_
  rw [a0, show V5 m ρ c main_call0_v1 = _ from W5_col m ρ c, show V5 m ρ c main_call0_v2 = _ from W5_row m ρ c,
    show V5 m ρ c main_arg10 = _ from W5_args m ρ c main_arg10 (by decide),
    show V5 m ρ c main_arg12 = _ from W5_args m ρ c main_arg12 (by decide),
    show V5 m ρ c main_call0_v9 = _ from read_v9 _, show V5 m ρ c main_call0_v10 = _ from read_v10 _,
    W4_args m ρ c main_arg11 (by decide), W4_args m ρ c main_arg13 (by decide)]
  exact layerArr_reshaped (f := 64) _ _ _ _ _ _

/-- The first and second calls' points reach the head. -/
theorem W7_x1 (hI : (inputs m c).Real) : W7 m ρ c (Proc.devRef .tc main_call0_v5) = mat (inputs m c).x1 :=
  (W7_of m ρ c main_call0_v5 (by decide)).trans <| (W6_of m ρ c main_call0_v5 (by decide)).trans <|
  (W5_of m ρ c main_call0_v5 (by decide)).trans <| (W4_of m ρ c main_call0_v5 (by decide)).trans <|
  (W3_of m ρ c main_call0_v5 (by decide)).trans (W2_x1 m ρ c hI)

theorem W7_x2 (hI : (inputs m c).Real) : W7 m ρ c (Proc.devRef .tc main_call0_v8) = mat (inputs m c).x2 :=
  (W7_of m ρ c main_call0_v8 (by decide)).trans <| (W6_of m ρ c main_call0_v8 (by decide)).trans <|
  (W5_of m ρ c main_call0_v8 (by decide)).trans (W4_x2 m ρ c hI)

theorem W7_x3 (hI : (inputs m c).Real) : W7 m ρ c (Proc.devRef .tc main_call0_v11) = mat (inputs m c).x3 :=
  (W7_of m ρ c main_call0_v11 (by decide)).trans (W6_x3 m ρ c hI)

/-- A third of the head's first weights, entry by entry. -/
theorem third_apply (o : ℕ) (w : FVec Ideal S192x1024 .f32) (h : S192x1024.Slices ![o, 0] S64x1024) (ho : o + 64 ≤ 192)
    (k : Fin 64) (j : Fin 1024) :
    extractStridedSlice S64x1024 ![o, 0] w h (ix2 k j) = w (ix2 ⟨o + k.val, by omega⟩ j) := by
  pointwise

/-- The head over the reshaped biases and the thirds of its first weights. -/
theorem headRow_reshaped (I : Inputs) (wl : FVec Ideal S192x1024 .f32) (bl : FVec Ideal S1024 .f32)
    (wm : FVec Ideal S1024x256 .f32) (bm : FVec Ideal S256 .f32) (wn : FVec Ideal S256x128 .f32)
    (bn : FVec Ideal S128 .f32) (wo : FVec Ideal S128x64 .f32) (bo : FVec Ideal S64 .f32)
    (h1 : I.Wl = ent wl) (h2 : I.bl = ent1 bl) (h3 : I.Wm = ent wm) (h4 : I.bm = ent1 bm) (h5 : I.Wn = ent wn)
    (h6 : I.bn = ent1 bn) (h7 : I.Wo = ent wo) (h8 : I.bo = ent1 bo) (r : Fin 8192) :
    headRow (I.x1 r) (I.x2 r) (I.x3 r) (extractStridedSlice S64x1024 ![0, 0] wl slices_S192x1024_S64x1024_0_0)
      (extractStridedSlice S64x1024 ![64, 0] wl slices_S192x1024_S64x1024_64_0)
      (extractStridedSlice S64x1024 ![128, 0] wl slices_S192x1024_S64x1024_128_0)
      (shapeCast S1x1024 bl shapeCasts_S1024_S1x1024) wm (shapeCast S1x256 bm shapeCasts_S256_S1x256) wn
      (shapeCast S1x128 bn shapeCasts_S128_S1x128) wo (shapeCast S1x64 bo shapeCasts_S64_S1x64) = I.out r := by
  unfold headRow Inputs.out Inputs.joined
  rw [h1, h2, h3, h4, h5, h6, h7, h8]
  have e0 := fun (k : Fin 64) (j : Fin 1024) => third_apply 0 wl slices_S192x1024_S64x1024_0_0 (by omega) k j
  have e1 := fun (k : Fin 64) (j : Fin 1024) => third_apply 64 wl slices_S192x1024_S64x1024_64_0 (by omega) k j
  have e2 := fun (k : Fin 64) (j : Fin 1024) => third_apply 128 wl slices_S192x1024_S64x1024_128_0 (by omega) k j
  simp only [Nat.zero_add] at e0
  simp only [e0, e1, e2, row_apply]

/-- The result array after the whole run. -/
theorem W8_result (hI : (inputs m c).Real) : W8 m ρ c (Proc.devRef .tc main_v0) = mat (inputs m c).out := by
  refine (W8_arr m ρ c 13).trans ?_
  refine (head_array (V7 m ρ) c).trans ?_
  rw [show V7 m ρ c main_call0_v5 = _ from W7_x1 m ρ c hI, show V7 m ρ c main_call0_v8 = _ from W7_x2 m ρ c hI,
    show V7 m ρ c main_call0_v11 = _ from W7_x3 m ρ c hI,
    show V7 m ρ c main_arg16 = _ from W7_args m ρ c main_arg16 (by decide),
    show V7 m ρ c main_arg18 = _ from W7_args m ρ c main_arg18 (by decide),
    show V7 m ρ c main_arg20 = _ from W7_args m ρ c main_arg20 (by decide),
    show V7 m ρ c main_call0_v12 = _ from read_v12 _, show V7 m ρ c main_call0_v13 = _ from read_v13 _,
    show V7 m ρ c main_call0_v14 = _ from read_v14 _, show V7 m ρ c main_call0_v15 = _ from read_v15 _,
    show V7 m ρ c main_call0_v16 = _ from read_v16 _, show V7 m ρ c main_call0_v17 = _ from read_v17 _,
    show V7 m ρ c main_call0_v18 = _ from read_v18 _,
    W6_args m ρ c main_arg14 (by decide), W6_args m ρ c main_arg15 (by decide), W6_args m ρ c main_arg17 (by decide),
    W6_args m ρ c main_arg19 (by decide), W6_args m ρ c main_arg21 (by decide)]
  funext i
  exact congrFun (headRow_reshaped (inputs m c) _ _ _ _ _ _ _ _ rfl rfl rfl rfl rfl rfl rfl rfl (i 0)) (i 1)

end Cert.Dgcnn
-- ==== Proof.Ref.lean ====
/-
  THE REFERENCE'S EDGE CONVOLUTION over arrays, for points of any number of coordinates: the masked pairwise distances, the
  indices of the thirty least of every row, the rows taken at them, the edge features, the two dense layers, and the maximum
  over the neighbours. The three convolutions of the reference program are three instances.
-/
module

public import proofs.«01_k».proof.Proof.KernelRun
public import proofs.«01_k».proof.Proof.Gen.ReferenceIdeal.Read

@[expose] public section

set_option maxRecDepth 16384

noncomputable section

namespace Cert.Dgcnn

open Idealize.ShloMosaic Idealize.ShloMosaic.TcCoe Idealize.SL.Sem
open Cert.ReferenceIdeal Cert.ReferenceIdeal.Gen

/-- The shape of an array of three axes. -/
abbrev Cube (a b c : ℕ) : Shape := ⟨3, ![a, b, c]⟩

/-- The side conditions of the array operations on points of `f` coordinates. -/
structure Width (f : ℕ) : Prop where
  sum : (Mat 8192 f).ReducesTo [1] S8192
  along : (Mat 8192 f).Reduces [1] S8192
  swap : (Mat 8192 f).Transposes [1, 0] (Mat f 8192)
  lift : (Mat 8192 f).BroadcastsInDim (Cube 8192 1 f) ![0, 2]
  spread : (Cube 8192 1 f).BroadcastsInDim (Cube 8192 30 f) ![0, 1, 2]
  fill : S_.BroadcastsInDim (Cube 8192 30 f) ![]
  flag : S8192x30.BroadcastsInDim (Cube 8192 30 f) ![0, 1]
  pair : Shape.Concatenates [Cube 8192 30 f, Cube 8192 30 f] (Cube 8192 30 (f + f)) 2
  rows : GatherDims.WF (Mat 8192 f) S8192x30x1 (Cube 8192 30 f) [2] [0] [] [0] [] 2 ![1, f]
  prod : DotDims.WF (Cube 8192 30 (f + f)) (Mat (f + f) 64) S8192x30x64 [2] [0] [0, 1] [1] [] []

/-- Rows of a table taken at an array of row numbers. -/
def rowDims (f : ℕ) (h : GatherDims.WF (Mat 8192 f) S8192x30x1 (Cube 8192 30 f) [2] [0] [] [0] [] 2 ![1, f]) :
    GatherDims (Mat 8192 f) S8192x30x1 (Cube 8192 30 f) where
  offsetDims := [2]
  collapsedSliceDims := [0]
  operandBatchingDims := []
  startIndicesBatchingDims := []
  startIndexMap := [0]
  indexVectorDim := 2
  sliceSizes := ![1, f]
  wf := h

/-- A product along the last axis of an array of three axes. -/
def lastDims (g : ℕ) (h : DotDims.WF (Cube 8192 30 g) (Mat g 64) S8192x30x64 [2] [0] [0, 1] [1] [] []) :
    DotDims (Cube 8192 30 g) (Mat g 64) S8192x30x64 where
  lhsContracting := [2]
  rhsContracting := [0]
  lhsNonContracting := [0, 1]
  rhsNonContracting := [1]
  lhsBatch := []
  rhsBatch := []
  wf := h

variable {f : ℕ} (w : Width f)

/-- The squared norms of the points. -/
def refNorms (x : FVec Ideal (Mat 8192 f) .f32) : FVec Ideal S8192 .f32 :=
  Host.reduceAdd (mulf x x) (constant S_ .f32 0x00000000#32) w.sum h_S_

/-- The pairwise distances, infinite between different groups. -/
def refDist (x : FVec Ideal (Mat 8192 f) .f32) (b : IVec S8192 32) : FVec Ideal S8192x8192 .f32 :=
  select
    (cmpi .ne
      (broadcastInDim S8192x8192 ![0, 1] bcast_S8192x1_S8192x8192_0_1 (broadcastInDim S8192x1 ![0] bcast_S8192_S8192x1_0 b))
      (broadcastInDim S8192x8192 ![0, 1] bcast_S1x8192_S8192x8192_0_1 (broadcastInDim S1x8192 ![1] bcast_S8192_S1x8192_1 b)))
    (broadcastInDim S8192x8192 ![] bcast_S_S8192x8192 (constant S_ .f32 0x7F800000#32))
    (addf
      (subf
        (broadcastInDim S8192x8192 ![0, 1] bcast_S8192x1_S8192x8192_0_1
          (broadcastInDim S8192x1 ![0] bcast_S8192_S8192x1_0 (refNorms w x)))
        (mulf (broadcastInDim S8192x8192 ![] bcast_S_S8192x8192 (constant S_ .f32 0x40000000#32))
          (Host.dotGeneral (DotDims.plain 8192 f 8192) none x (transpose (Mat f 8192) [1, 0] x w.swap))))
      (broadcastInDim S8192x8192 ![0, 1] bcast_S1x8192_S8192x8192_0_1
        (broadcastInDim S1x8192 ![1] bcast_S8192_S1x8192_1 (refNorms w x))))

/-- In every row, where the thirty least entries stand, the least first. -/
def refLeast (d : FVec Ideal S8192x8192 .f32) : IVec S8192x30 32 :=
  (Host.topK S8192x30 1 (FloatOps.cmpfTotal .gt) (Host.negf d) sliceFits_S8192x8192_S8192x30).2

/-- The row numbers, a negative one counted from the end. -/
def refWrap (i : IVec S8192x30 32) : IVec S8192x30x1 32 :=
  broadcastInDim S8192x30x1 ![0, 1] bcast_S8192x30_S8192x30x1_0_1
    (select (cmpi .slt i (broadcastInDim S8192x30 ![] bcast_S_S8192x30 (constantI S_ 32 0#32)))
      (addi i (broadcastInDim S8192x30 ![] bcast_S_S8192x30 (constantI S_ 32 8192#32))) i)

/-- Which row numbers lie in the table. -/
def refValid (i : IVec S8192x30x1 32) : IVec S8192x30 1 :=
  Host.reduce IntOp.andi
    (andi (cmpi .sge i (broadcastInDim S8192x30x1 ![] bcast_S_S8192x30x1 (constantI S_ 32 0#32)))
      (cmpi .sle i (broadcastInDim S8192x30x1 ![0, 1, 2] bcast_S1x1x1_S8192x30x1_0_1_2
        (broadcastInDim S1x1x1 ![2] bcast_S1_S1x1x1_2 (constantI S1 32 8191#32)))))
    (constantI S_ 1 1#1) reducesTo_S8192x30x1_S8192x30_d2 h_S_

/-- The rows of the table at the given row numbers. -/
def refTake (x : FVec Ideal (Mat 8192 f) .f32) (i : IVec S8192x30x1 32) : FVec Ideal (Cube 8192 30 f) .f32 :=
  select (broadcastInDim (Cube 8192 30 f) ![0, 1] w.flag (refValid i)) (Host.gather (rowDims f w.rows) x i)
    (broadcastInDim (Cube 8192 30 f) ![] w.fill (constant S_ .f32 0x7FC00000#32))

/-- Every point repeated for its thirty neighbours. -/
def refSelf (x : FVec Ideal (Mat 8192 f) .f32) : FVec Ideal (Cube 8192 30 f) .f32 :=
  broadcastInDim (Cube 8192 30 f) ![0, 1, 2] w.spread (broadcastInDim (Cube 8192 1 f) ![0, 2] w.lift x)

/-- The edge features: the point beside the difference to its neighbour. -/
def refEdges (x : FVec Ideal (Mat 8192 f) .f32) (y : FVec Ideal (Cube 8192 30 f) .f32) :
    FVec Ideal (Cube 8192 30 (f + f)) .f32 :=
  concatenate (Cube 8192 30 (f + f)) 2
    [⟨Cube 8192 30 f, refSelf w x⟩, ⟨Cube 8192 30 f, subf y (refSelf w x)⟩] w.pair

/-- A dense layer over the edges, cut off below at zero. -/
def refDense {g : ℕ} (h : DotDims.WF (Cube 8192 30 g) (Mat g 64) S8192x30x64 [2] [0] [0, 1] [1] [] [])
    (e : FVec Ideal (Cube 8192 30 g) .f32) (W : FVec Ideal (Mat g 64) .f32) (b : FVec Ideal S64 .f32) :
    FVec Ideal S8192x30x64 .f32 :=
  maximumf
    (addf (Host.dotGeneral (lastDims g h) none e W)
      (broadcastInDim S8192x30x64 ![0, 1, 2] bcast_S1x1x64_S8192x30x64_0_1_2 (broadcastInDim S1x1x64 ![2] bcast_S64_S1x1x64_2 b)))
    (broadcastInDim S8192x30x64 ![] bcast_S_S8192x30x64 (constant S_ .f32 0x00000000#32))

theorem square : DotDims.WF (Cube 8192 30 64) (Mat 64 64) S8192x30x64 [2] [0] [0, 1] [1] [] [] :=
  dot_S8192x30x64_S64x64_S8192x30x64_2_0_01_1_n_n.wf

/-- The maximum over the neighbours. -/
def refMax (h : FVec Ideal S8192x30x64 .f32) : FVec Ideal S8192x64 .f32 :=
  Host.reduce FloatOps.maximumf h (constant S_ .f32 0xFF800000#32) reducesTo_S8192x30x64_S8192x64_d1 h_S_

/-- The reference's edge convolution. -/
def refLayer (x : FVec Ideal (Mat 8192 f) .f32) (b : IVec S8192 32) (W1 : FVec Ideal (Mat (f + f) 64) .f32)
    (b1 : FVec Ideal S64 .f32) (W2 : FVec Ideal S64x64 .f32) (b2 : FVec Ideal S64 .f32) : FVec Ideal S8192x64 .f32 :=
  refMax (refDense square
    (refDense w.prod (refEdges w x (refTake w x (refWrap (refLeast (refDist w x b))))) W1 b1) W2 b2)

theorem width14 : Width 14 where
  sum := reducesTo_S8192x14_S8192_d1
  along := by decide
  swap := transposes_S8192x14_S14x8192_1_0
  lift := bcast_S8192x14_S8192x1x14_0_2
  spread := bcast_S8192x1x14_S8192x30x14_0_1_2
  fill := bcast_S_S8192x30x14
  flag := bcast_S8192x30_S8192x30x14_0_1
  pair := concatenates_S8192x30x14_S8192x30x14_S8192x30x28_d2
  rows := gather_S8192x14_S8192x30x1_S8192x30x14_2_0_n_n_0_2_114_wf
  prod := dot_S8192x30x28_S28x64_S8192x30x64_2_0_01_1_n_n.wf

theorem width64 : Width 64 where
  sum := reducesTo_S8192x64_S8192_d1
  along := by decide
  swap := transposes_S8192x64_S64x8192_1_0
  lift := bcast_S8192x64_S8192x1x64_0_2
  spread := bcast_S8192x1x64_S8192x30x64_0_1_2
  fill := bcast_S_S8192x30x64
  flag := bcast_S8192x30_S8192x30x64_0_1
  pair := concatenates_S8192x30x64_S8192x30x64_S8192x30x128_d2
  rows := gather_S8192x64_S8192x30x1_S8192x30x64_2_0_n_n_0_2_164_wf
  prod := dot_S8192x30x128_S128x64_S8192x30x64_2_0_01_1_n_n.wf

variable (a0 : FVec Ideal (Mat 8192 14) .f32) (a1 : IVec S8192 32) (a2 : FVec Ideal (Mat 28 64) .f32)
  (a3 : FVec Ideal S64 .f32) (a4 : FVec Ideal S64x64 .f32) (a5 : FVec Ideal S64 .f32) (a6 : FVec Ideal (Mat 128 64) .f32)
  (a7 : FVec Ideal S64 .f32) (a8 : FVec Ideal S64x64 .f32) (a9 : FVec Ideal S64 .f32) (a10 : FVec Ideal (Mat 128 64) .f32)
  (a11 : FVec Ideal S64 .f32) (a12 : FVec Ideal S64x64 .f32) (a13 : FVec Ideal S64 .f32)

/-- The first convolution of the reference program. -/
theorem ref_layer1 : Read.val_main_v34 (F := Ideal) a0 a1 a2 a3 a4 a5 = refLayer width14 a0 a1 a2 a3 a4 a5 := by
  sl_kernel_rfl

/-- The second, over the first's result. -/
theorem ref_layer2 : Read.val_main_v69 (F := Ideal) a0 a1 a2 a3 a4 a5 a6 a7 a8 a9
    = refLayer width64 (Read.val_main_v34 (F := Ideal) a0 a1 a2 a3 a4 a5) a1 a6 a7 a8 a9 := by
  sl_kernel_rfl

/-- The third, over the second's result. -/
theorem ref_layer3 : Read.val_main_v104 (F := Ideal) a0 a1 a2 a3 a4 a5 a6 a7 a8 a9 a10 a11 a12 a13
    = refLayer width64 (Read.val_main_v69 (F := Ideal) a0 a1 a2 a3 a4 a5 a6 a7 a8 a9) a1 a10 a11 a12 a13 := by
  sl_kernel_rfl

end Cert.Dgcnn

end
-- ==== Proof.RefRows.lean ====
/-
  THE REFERENCE'S EDGE CONVOLUTION, READ entry by entry at the extended reals: its masked distances are `rowDist`, the
  indices it sorts out are the nearest points in order, the rows it takes are theirs, and so it computes `layerAll`.
-/
module

public import proofs.«01_k».proof.Proof.Ref
public import Idealize.ShloMosaic.Lib.StackMember
public import Idealize.ShloMosaic.Lib.Routing.Ops

@[expose] public section

set_option maxRecDepth 16384

noncomputable section

namespace Cert.Dgcnn

open Idealize.ShloMosaic Idealize.ShloMosaic.TcCoe Idealize.SL.Sem
open Cert.ReferenceIdeal Cert.ReferenceIdeal.Gen

variable {f : ℕ} (w : Width f)

theorem refNorms_apply (x : FVec Ideal (Mat 8192 f) .f32) (r : Fin 8192) :
    refNorms w x (ix1 r) = ∑ l, x (ix2 r l) * x (ix2 r l) := by
  unfold refNorms
  simp only [Host.reduceAdd, Ideal.hostReduceAdd_def]
  rw [Ideal.hostReduceAdd_single w.sum w.along]
  refine (congrArg (· + _) Ideal.ofBits_zero_f32).trans ((zero_add _).trans (Finset.sum_congr rfl fun k _ => ?_))
  have h : w.along.lift (ix1 r) k = ix2 r k := funext fun a => Fin.ext (by match a with | ⟨0, _⟩ => rfl | ⟨1, _⟩ => rfl)
  rw [h]
  rfl

/-- The products of the points with each other. -/
theorem gram_apply (x : FVec Ideal (Mat 8192 f) .f32) (r j : Fin 8192) :
    Host.dotGeneral (DotDims.plain 8192 f 8192) none x (transpose (Mat f 8192) [1, 0] x w.swap) (ix2 r j)
      = ∑ l, x (ix2 r l) * x (ix2 j l) := by
  rw [ix2_eq_valueIdx, StackMember.dotGeneral_plain_apply]
  refine Finset.sum_congr rfl fun l _ => ?_
  simp only [← ix2_eq_valueIdx]
  congr 1
  pointwise

theorem sitofp_eq_iff (a b : BitVec 32) : (FloatOps.sitofp .f32 a : Ideal .f32) = FloatOps.sitofp .f32 b ↔ a = b := by
  refine ⟨fun h => BitVec.eq_of_toInt_eq ?_, fun h => by rw [h]⟩
  exact_mod_cast EReal.coe_injective h

theorem refDist_apply (x : FVec Ideal (Mat 8192 f) .f32) (b : IVec S8192 32) (r j : Fin 8192) :
    refDist w x b (ix2 r j) = rowDist (ent x r) (ent1 (sitofp .f32 b) r) (ent x) (ent1 (sitofp .f32 b)) j := by
  have h : refDist w x b (ix2 r j) = Scalar.select (IntOp.cmpi .ne (b (ix1 r)) (b (ix1 j))) ⊤
      ((refNorms w x (ix1 r) - two * ∑ l, x (ix2 r l) * x (ix2 j l)) + refNorms w x (ix1 j)) := by
    rw [← gram_apply w, ← inf_eq]
    unfold refDist
    generalize Host.dotGeneral (DotDims.plain 8192 f 8192) none x (transpose (Mat f 8192) [1, 0] x w.swap) = G
    generalize refNorms w x = N
    pointwise
  rw [h, refNorms_apply, refNorms_apply]
  show _ = if (FloatOps.sitofp .f32 (b (ix1 r)) : Ideal .f32) = FloatOps.sitofp .f32 (b (ix1 j)) then _ else _
  by_cases hb : b (ix1 r) = b (ix1 j)
  · rw [if_pos ((sitofp_eq_iff _ _).mpr hb), hb]
    rw [show IntOp.cmpi .ne (b (ix1 j)) (b (ix1 j)) = 0#1 by simp [IntOp.cmpi]]
    rfl
  · rw [if_neg (mt (sitofp_eq_iff _ _).mp hb)]
    rw [show IntOp.cmpi .ne (b (ix1 r)) (b (ix1 j)) = 1#1 from congrArg BitVec.ofBool (bne_iff_ne.mpr hb)]
    rfl

/-- The second of two arrays sorted together by rows, read at an entry. -/
theorem sort2_apply {α β : Type} (cmp : α × β → α × β → BitVec 1) (x : S8192x8192.Idx → α) (y : S8192x8192.Idx → β)
    (r q : Fin 8192) :
    (Host.sort2 S8192x8192 1 cmp x y).2 (ix2 r q) = y (ix2 r (sortedFrom (fun k k' : Fin 8192 =>
      cmp (x (ix2 r k), y (ix2 r k)) (x (ix2 r k'), y (ix2 r k')) == 1#1) q)) := by
  have ha (k : Fin 8192) : (ix2 r q : S8192x8192.Idx).along 1 k = ix2 r k :=
    funext fun a => by match a with | ⟨0, _⟩ => rfl | ⟨1, _⟩ => rfl
  unfold Host.sort2
  rw [dif_pos (show 1 < S8192x8192.rank by decide)]
  refine (congrArg y (ha _)).trans (congrArg (fun B => y (ix2 r (sortedFrom B q))) ?_)
  funext k k'
  exact congrArg₂ (fun p p' => cmp (x p, y p) (x p', y p') == 1#1) (ha k) (ha k')

theorem slice_apply {α : Type} (x : S8192x8192.Idx → α) (r : Fin 8192) (n : Fin 30) :
    extractStridedSlice S8192x30 (fun _ => 0) x sliceFits_S8192x8192_S8192x30 (ix2 r n) = x (ix2 r ⟨n.val, by omega⟩) := by
  pointwise

theorem refLeast_apply (d : FVec Ideal S8192x8192 .f32) (r : Fin 8192) (n : Fin 30) :
    refLeast d (ix2 r n) = BitVec.ofNat 32 (sortedFrom (fun k k' : Fin 8192 => decide (d (ix2 r k) < d (ix2 r k')))
      ⟨n.val, by omega⟩).val := by
  have hB : (fun k k' : Fin 8192 => FloatOps.cmpfTotal .gt (Host.negf d (ix2 r k)) (Host.negf d (ix2 r k')) == 1#1)
      = fun k k' : Fin 8192 => decide (d (ix2 r k) < d (ix2 r k')) := by
    funext k k'
    rw [Ideal.cmpfTotal_def]
    show (Ideal.cmp .ogt (-d (ix2 r k)) (-d (ix2 r k')) == 1#1) = _
    simp only [Ideal.cmp, EReal.neg_lt_neg_iff]
    by_cases hk : d (ix2 r k) < d (ix2 r k') <;> simp [hk]
  rw [← hB]
  unfold refLeast Host.topK
  exact (slice_apply _ r n).trans (sort2_apply (fun l l' : Ideal .f32 × BitVec 32 => FloatOps.cmpfTotal .gt l.1 l'.1)
    (Host.negf d) (iotaInDim S8192x8192 32 1) r _)

/-- The row number of a point is small. -/
theorem toInt_point (j : Fin 8192) : (BitVec.ofNat 32 j.val).toInt = j.val := toInt_col (by omega)

theorem refWrap_apply (i : IVec S8192x30 32) (r : Fin 8192) (n : Fin 30) (j : Fin 8192)
    (h : i (ix2 r n) = BitVec.ofNat 32 j.val) : refWrap i (ix3 r n 0) = BitVec.ofNat 32 j.val := by
  have e : refWrap i (ix3 r n 0)
      = Scalar.select (IntOp.cmpi .slt (i (ix2 r n)) 0#32) (IntOp.addi (i (ix2 r n)) 8192#32) (i (ix2 r n)) := by
    unfold refWrap
    pointwise
  have hc : IntOp.cmpi .slt (BitVec.ofNat 32 j.val) 0#32 = 0#1 := by
    refine congrArg BitVec.ofBool (decide_eq_false ?_)
    rw [toInt_point]
    simp
  rw [e, h, hc]
  rfl

theorem refValid_apply (i : IVec S8192x30x1 32) (r : Fin 8192) (n : Fin 30) (j : Fin 8192)
    (h : i (ix3 r n 0) = BitVec.ofNat 32 j.val) : refValid i (ix2 r n) = 1#1 := by
  unfold refValid
  have hr : S8192x30x1.Reduces [2] S8192x30 := by decide
  rw [Host.reduce_eq_fold_single IntOp.andi _ _ reducesTo_S8192x30x1_S8192x30_d2 hr]
  have hl (k : Fin 1) : hr.lift (ix2 r n) k = ix3 r n 0 := funext fun a => Fin.ext (by
    match a with
    | ⟨0, _⟩ => rfl
    | ⟨1, _⟩ => rfl
    | ⟨2, _⟩ => exact Nat.lt_one_iff.mp k.isLt)
  have hv : (andi (cmpi .sge i (broadcastInDim S8192x30x1 ![] bcast_S_S8192x30x1 (constantI S_ 32 0#32)))
      (cmpi .sle i (broadcastInDim S8192x30x1 ![0, 1, 2] bcast_S1x1x1_S8192x30x1_0_1_2
        (broadcastInDim S1x1x1 ![2] bcast_S1_S1x1x1_2 (constantI S1 32 8191#32))))) (ix3 r n 0)
      = IntOp.andi (IntOp.cmpi .sge (i (ix3 r n 0)) 0#32) (IntOp.cmpi .sle (i (ix3 r n 0)) 8191#32) := by
    pointwise
  have h0 : IntOp.cmpi .sge (BitVec.ofNat 32 j.val) 0#32 = 1#1 := by
    simp [IntOp.cmpi, BitVec.sle, toInt_point]
  have h1 : IntOp.cmpi .sle (BitVec.ofNat 32 j.val) 8191#32 = 1#1 := by
    refine congrArg BitVec.ofBool (decide_eq_true ?_)
    rw [toInt_point]
    show (j.val : ℤ) ≤ 8191
    omega
  rw [h, h0, h1] at hv
  refine (Finset.fold_congr (g := fun _ : Fin 1 => 1#1) fun k _ => ?_).trans rfl
  exact (congrArg _ (hl k)).trans hv

theorem rows_apply (x : FVec Ideal (Mat 8192 f) .f32) (i : IVec S8192x30x1 32) (r : Fin 8192) (n : Fin 30) (l : Fin f)
    (j : Fin 8192) (h : i (ix3 r n 0) = BitVec.ofNat 32 j.val) :
    Host.gather (rowDims f w.rows) x i (ix3 r n l) = x (ix2 j l) := by
  have hs (k) : (rowDims f w.rows).siIdx (ix3 r n l) k = ix3 r n 0 := funext fun b => Fin.ext (by
    match b with
    | ⟨0, _⟩ => rfl
    | ⟨1, _⟩ => rfl
    | ⟨2, _⟩ => exact Nat.lt_one_iff.mp k.isLt)
  unfold Host.gather
  refine congrArg x (funext fun a => Fin.ext ?_)
  match a with
  | ⟨0, _⟩ =>
    show (rowDims f w.rows).start (ix3 r n l) i 0 + (rowDims f w.rows).batchCoord (ix3 r n l) 0
      + (rowDims f w.rows).offCoord (ix3 r n l) 0 = j.val
    rw [GatherDims.batchCoord_eq_zero _ _ _ List.not_mem_nil, GatherDims.offCoord_eq_zero _ _ _
      (fun e => ((GatherDims.mem_sKept _ _).mp e).1 (List.mem_singleton.mpr rfl))]
    unfold GatherDims.start
    rw [dif_pos (show (0 : Fin 2) ∈ (rowDims f w.rows).startIndexMap from List.mem_singleton.mpr rfl), hs, h]
    show min ((BitVec.ofNat 32 j.val).toInt.toNat) (8192 - 1) + 0 + 0 = j.val
    have := j.isLt
    rw [toInt_point, Int.toNat_natCast]
    omega
  | ⟨1, _⟩ =>
    show (rowDims f w.rows).start (ix3 r n l) i 1 + (rowDims f w.rows).batchCoord (ix3 r n l) 1
      + (rowDims f w.rows).offCoord (ix3 r n l) 1 = l.val
    rw [GatherDims.batchCoord_eq_zero _ _ _ List.not_mem_nil]
    unfold GatherDims.start
    rw [dif_neg (show ¬(1 : Fin 2) ∈ (rowDims f w.rows).startIndexMap from
      fun e => absurd (List.mem_singleton.mp e) (show ¬(1 : Fin 2) = 0 by decide))]
    unfold GatherDims.offCoord
    rw [dif_pos (show (1 : Fin 2) ∈ (rowDims f w.rows).sKept from (GatherDims.mem_sKept _ _).mpr
      ⟨fun e => absurd (List.mem_singleton.mp e) (show ¬(1 : Fin 2) = 0 by decide), List.not_mem_nil⟩)]
    show 0 + 0 + l.val = l.val
    omega

theorem refTake_apply (x : FVec Ideal (Mat 8192 f) .f32) (i : IVec S8192x30x1 32) (r : Fin 8192) (n : Fin 30) (l : Fin f)
    (j : Fin 8192) (h : i (ix3 r n 0) = BitVec.ofNat 32 j.val) : refTake w x i (ix3 r n l) = x (ix2 j l) := by
  have e : refTake w x i (ix3 r n l) = Scalar.select (refValid i (ix2 r n))
      (Host.gather (rowDims f w.rows) x i (ix3 r n l)) (Ideal.ofBits .f32 0x7FC00000#32) := by
    unfold refTake
    generalize refValid i = V
    generalize Host.gather (rowDims f w.rows) x i = G
    pointwise
  rw [e, refValid_apply i r n j h, rows_apply w x i r n l j h]
  rfl

theorem refSelf_apply (x : FVec Ideal (Mat 8192 f) .f32) (r : Fin 8192) (n : Fin 30) (l : Fin f) :
    refSelf w x (ix3 r n l) = x (ix2 r l) := by
  unfold refSelf
  pointwise
  refine congrArg (fun t : Fin f => x (ix2 r t)) ?_
  by_cases h1 : f = 1
  · subst h1
    exact Subsingleton.elim _ _
  · exact (dif_neg h1).trans (dif_neg h1)

theorem refEdges_apply (x : FVec Ideal (Mat 8192 f) .f32) (y : FVec Ideal (Cube 8192 30 f) .f32) (r : Fin 8192)
    (n : Fin 30) (l : Fin (f + f)) :
    refEdges w x y (ix3 r n l) = feat (ent x r) (fun k => y (ix3 r n k)) l := by
  unfold refEdges feat
  by_cases h : l.val < f
  · rw [dif_pos h]
    refine (concatenate_pair_apply_left 2 _ _ w.pair (ix3 r n l) rfl (ix3 r n ⟨l.val, h⟩) fun a => ?_).trans
      (refSelf_apply w x r n _)
    match a with
    | ⟨0, _⟩ => rfl
    | ⟨1, _⟩ => rfl
    | ⟨2, _⟩ => rfl
  · rw [dif_neg h]
    refine (concatenate_pair_apply_right 2 _ _ w.pair (ix3 r n l) rfl rfl (ix3 r n ⟨l.val - f, by omega⟩)
      (fun a ha => ?_) ?_).trans ?_
    · match a with
      | ⟨0, _⟩ => rfl
      | ⟨1, _⟩ => rfl
      | ⟨2, _⟩ => exact absurd rfl ha
    · show l.val - f + f = l.val
      omega
    · show y _ - refSelf w x _ = _
      rw [refSelf_apply]

theorem refDense_apply {g : ℕ} (h : DotDims.WF (Cube 8192 30 g) (Mat g 64) S8192x30x64 [2] [0] [0, 1] [1] [] [])
    (e : FVec Ideal (Cube 8192 30 g) .f32) (W : FVec Ideal (Mat g 64) .f32) (b : FVec Ideal S64 .f32)
    (r : Fin 8192) (n : Fin 30) (k : Fin 64) :
    refDense h e W b (ix3 r n k) = hidden (fun l => e (ix3 r n l)) (ent W) (ent1 b) k := by
  have d : Host.dotGeneral (lastDims g h) none e W (ix3 r n k) = ∑ l, e (ix3 r n l) * W (ix2 l k) := by
    simp only [Host.dotGeneral]
    rw [Ideal.dotGeneral_apply, ← Equiv.sum_comp (ValueIdx.contrEquiv1 (lastDims g h) g rfl rfl).symm]
    refine Finset.sum_congr rfl fun l _ => ?_
    have hl := ValueIdx.contrEquiv1_symm_val (lastDims g h) g rfl rfl l
    have el : (lastDims g h).lhsIdx (ix3 r n k) ((ValueIdx.contrEquiv1 (lastDims g h) g rfl rfl).symm l) = ix3 r n l :=
      funext fun a => Fin.ext (by
        match a with
        | ⟨0, _⟩ => simp [DotDims.lhsIdx, lastDims]; rfl
        | ⟨1, _⟩ => simp [DotDims.lhsIdx, lastDims]; rfl
        | ⟨2, _⟩ => simp [DotDims.lhsIdx, lastDims]; exact hl)
    have er : (lastDims g h).rhsIdx (ix3 r n k) ((ValueIdx.contrEquiv1 (lastDims g h) g rfl rfl).symm l) = ix2 l k :=
      funext fun a => Fin.ext (by
        match a with
        | ⟨0, _⟩ => simp [DotDims.rhsIdx, lastDims]; exact hl
        | ⟨1, _⟩ => simp [DotDims.rhsIdx, lastDims]; rfl)
    rw [el, er]
  have q : refDense h e W b (ix3 r n k)
      = max (Host.dotGeneral (lastDims g h) none e W (ix3 r n k) + b (ix1 k)) (Ideal.ofBits .f32 0x00000000#32) := by
    unfold refDense
    generalize Host.dotGeneral (lastDims g h) none e W = G
    pointwise
  rw [q, d, Ideal.ofBits_zero_f32]
  rfl

theorem refMax_apply (h : FVec Ideal S8192x30x64 .f32) (r : Fin 8192) (c : Fin 64) :
    refMax h (ix2 r c) = Finset.univ.sup fun n : Fin 30 => h (ix3 r n c) := by
  unfold refMax
  have hr : S8192x30x64.Reduces [1] S8192x64 := by decide
  rw [Host.reduce_eq_fold_single FloatOps.maximumf h _ reducesTo_S8192x30x64_S8192x64_d1 hr]
  have hl (n : Fin 30) : hr.lift (ix2 r c) n = ix3 r n c := funext fun a => Fin.ext (by
    match a with
    | ⟨0, _⟩ => rfl
    | ⟨1, _⟩ => rfl
    | ⟨2, _⟩ => rfl)
  show Finset.univ.fold max (Ideal.ofBits .f32 0xFF800000#32) (fun n : Fin 30 => h (hr.lift (ix2 r c) n)) = _
  simp only [hl, neg_inf_eq]
  rfl

/-- The squared distance of real points is real. -/
theorem sqDist_real {p q : Fin f → EReal} (hp : ∀ k, IsReal (p k)) (hq : ∀ k, IsReal (q k)) : IsReal (sqDist p q) :=
  ((IsReal.sum _ fun k => (hp k).mul (hp k)).sub (two_real.mul (IsReal.sum _ fun k => (hp k).mul (hq k)))).add
    (IsReal.sum _ fun k => (hq k).mul (hq k))

/-- Every point's group has thirty members. -/
def Full (b : IVec S8192 32) : Prop :=
  ∀ r : Fin 8192, 30 ≤ (Finset.univ.filter fun j : Fin 8192 => b (ix1 r) = b (ix1 j)).card

/-- The sorted indices are the nearest points in order, where every group has thirty members. -/
theorem refLeast_nearest (x : FVec Ideal (Mat 8192 f) .f32) (hx : ∀ r k, IsReal (ent x r k)) (b : IVec S8192 32)
    (hb : Full b) (r : Fin 8192) (n : Fin 30) : refLeast (refDist w x b) (ix2 r n)
      = BitVec.ofNat 32 (nearest (rowDist (ent x r) (ent1 (sitofp .f32 b) r) (ent x) (ent1 (sitofp .f32 b))) n.val).val := by
  set D := rowDist (ent x r) (ent1 (sitofp .f32 b) r) (ent x) (ent1 (sitofp .f32 b)) with hD
  have hK : 30 ≤ (Finset.univ.filter fun j => D j < ⊤).card := by
    refine (hb r).trans (Finset.card_le_card fun j hj => ?_)
    have hj' : b (ix1 r) = b (ix1 j) := (Finset.mem_filter.mp hj).2
    refine Finset.mem_filter.mpr ⟨Finset.mem_univ _, ?_⟩
    have : D j = sqDist (ent x r) (ent x j) := if_pos ((sitofp_eq_iff _ _).mpr hj')
    rw [this]
    exact (sqDist_real (hx r) (hx j)).lt_top
  rw [refLeast_apply]
  have ha := ascends_sortedFrom D (fun k k' => decide (refDist w x b (ix2 r k) < refDist w x b (ix2 r k')))
    fun k k' => by rw [refDist_apply, refDist_apply]
  exact congrArg (fun t : Fin 8192 => BitVec.ofNat 32 t.val) (ha.nearest_eq hK ⟨n.val, by omega⟩ n.isLt).symm

/-- The reference's edge convolution computes `layerAll`, on real points in full groups. -/
theorem refLayer_eq (x : FVec Ideal (Mat 8192 f) .f32) (hx : ∀ r k, IsReal (ent x r k)) (b : IVec S8192 32) (hb : Full b)
    (W1 : FVec Ideal (Mat (f + f) 64) .f32) (b1 : FVec Ideal S64 .f32) (W2 : FVec Ideal S64x64 .f32)
    (b2 : FVec Ideal S64 .f32) : refLayer w x b W1 b1 W2 b2
      = mat (layerAll (ent x) (ent1 (sitofp .f32 b)) (ent W1) (ent1 b1) (ent W2) (ent1 b2)) := by
  funext i
  obtain ⟨r, c, rfl⟩ : ∃ (r : Fin 8192) (c : Fin 64), i = ix2 r c := ⟨i 0, i 1, by idx_vars i⟩
  unfold refLayer
  rw [refMax_apply]
  show _ = Finset.univ.sup fun n : Fin 30 =>
    edgeOut (ent x r) (ent1 (sitofp .f32 b) r) (ent x) (ent1 (sitofp .f32 b)) (ent W1) (ent1 b1) (ent W2) (ent1 b2) n.val c
  refine congrArg (fun g : Fin 30 → EReal => Finset.univ.sup g) (funext fun n => ?_)
  simp only [refDense_apply, refEdges_apply]
  have ht (l : Fin f) := refTake_apply w x _ r n l _ (refWrap_apply _ r n _ (refLeast_nearest w x hx b hb r n))
  simp only [ht]
  rfl

end Cert.Dgcnn

end
-- ==== Proof.Pre.lean ====
/-
  WHAT THE PRECONDITION SAYS. The function `groups_full` being true at the arguments: the points and the weights of the first
  two convolutions are real numbers, and every point's group has thirty members.
-/
module

public import proofs.«01_k».proof.Proof.RefRows
public import proofs.«01_k».proof.Pre_groups_full
public import Idealize.ShloMosaic.Lib.StableHlo.Predicate
public import Idealize.ShloMosaic.Lib.ReduceAll

@[expose] public section

set_option maxRecDepth 16384

noncomputable section

namespace Cert.Dgcnn

open Idealize.ShloMosaic Idealize.ShloMosaic.TcCoe Idealize.SL.Sem
open Cert.Pre_groups_full

/-- The side conditions of the precondition's array operations. -/
theorem preFacts : Cert.Pre_groups_full.Facts where
  bcast_S_S8192x14 := by decide
  reducesTo_S8192x14_S_d0_1 := by decide
  h_S_ := by decide
  bcast_S_S28x64 := by decide
  reducesTo_S28x64_S_d0_1 := by decide
  bcast_S_S64 := by decide
  reducesTo_S64_S_d0 := by decide
  bcast_S_S64x64 := by decide
  reducesTo_S64x64_S_d0_1 := by decide
  bcast_S_S128x64 := by decide
  reducesTo_S128x64_S_d0_1 := by decide
  bcast_S8192_S8192x1_0 := by decide
  bcast_S8192_S1x8192_1 := by decide
  bcast_S8192x1_S8192x8192_0_1 := by decide
  bcast_S1x8192_S8192x8192_0_1 := by decide
  natLt_1_32 := by decide
  reducesTo_S8192x8192_S8192_d1 := by decide
  bcast_S_S8192 := by decide
  reducesTo_S8192_S_d0 := by decide

/-- An extended real below infinity in absolute value is a real number. -/
theorem real_of_abs_lt {x : EReal} (h : max x (-x) < ⊤) : IsReal x := by
  induction x using EReal.rec with
  | bot => simp at h
  | coe a => exact ⟨a, rfl⟩
  | top => simp at h

/-- A truth value of the precondition: true. -/
abbrev yes : IVec S_ 1 := fun _ => 1#1

theorem both {a b : IVec S_ 1} (h : andi a b = yes) : a = yes ∧ b = yes := by
  have e : ∀ p q : BitVec 1, IntOp.andi p q = 1#1 → p = 1#1 ∧ q = 1#1 := by decide
  exact ⟨funext fun i => (e _ _ (congrFun h i)).1, funext fun i => (e _ _ (congrFun h i)).2⟩

instance : Subsingleton S_.Idx := ⟨fun _ _ => funext fun k => k.elim0⟩

/-- An array all of whose entries are below infinity in absolute value has real entries. -/
theorem real_of_all {s : Shape} {axes : List (Fin s.rank)} (x : FVec Ideal s .f32) (hb : S_.BroadcastsInDim s ![])
    (hr : s.ReducesTo axes S_) (hu : 0 < S_.numel) (h : Host.reduce IntOp.andi (cmpf .olt (Host.absf x)
      (broadcastInDim s ![] hb (constant S_ .f32 0x7F800000#32))) (constantI S_ 1 1#1) hr hu = yes)
    (i : s.Idx) : IsReal (x i) := by
  have e := Host.reduce_andi_all _ _ hr hu (Shape.Idx.first hu) (congrFun h _) i
  have t : broadcastInDim s ![] hb (constant (F := Ideal) S_ .f32 0x7F800000#32) i = ⊤ :=
    (StableHlo.Predicate.bcast_scalar hb hu _ i).trans inf_eq
  refine real_of_abs_lt ?_
  have e' : Ideal.cmp .olt (max (x i) (-x i)) (broadcastInDim s ![] hb (constant (F := Ideal) S_ .f32 0x7F800000#32) i) = 1#1 := e
  rw [t] at e'
  by_contra hn
  simp [Ideal.cmp, hn] at e'

variable [Facts]
open Facts

/-- Counting the members of every group and comparing with thirty. -/
theorem full_of_all (b : IVec S8192 32)
    (h : Host.reduce IntOp.andi (cmpi .sge (Host.reduce IntOp.addi (extui 32 (cmpi .eq
        (broadcastInDim S8192x8192 ![0, 1] bcast_S8192x1_S8192x8192_0_1 (broadcastInDim S8192x1 ![0] bcast_S8192_S8192x1_0 b))
        (broadcastInDim S8192x8192 ![0, 1] bcast_S1x8192_S8192x8192_0_1 (broadcastInDim S1x8192 ![1] bcast_S8192_S1x8192_1 b)))
          natLt_1_32) (constantI S_ 32 0#32) reducesTo_S8192x8192_S8192_d1 h_S_)
        (broadcastInDim S8192 ![] bcast_S_S8192 (constantI S_ 32 30#32))) (constantI S_ 1 1#1) reducesTo_S8192_S_d0 h_S_ = yes) :
    Full b := by
  intro r
  have e := Host.reduce_andi_all _ _ reducesTo_S8192_S_d0 h_S_ (Shape.Idx.first h_S_) (congrFun h _) (ix1 r)
  set mask := cmpi .eq
        (broadcastInDim S8192x8192 ![0, 1] bcast_S8192x1_S8192x8192_0_1 (broadcastInDim S8192x1 ![0] bcast_S8192_S8192x1_0 b))
        (broadcastInDim S8192x8192 ![0, 1] bcast_S1x8192_S8192x8192_0_1 (broadcastInDim S1x8192 ![1] bcast_S8192_S1x8192_1 b))
    with hm
  have hmask (j : Fin 8192) : mask (ix2 r j) = IntOp.cmpi .eq (b (ix1 r)) (b (ix1 j)) := by
    rw [hm]
    pointwise
  have hc := StableHlo.Predicate.toNat_reduce_count_cols (by decide) mask natLt_1_32 reducesTo_S8192x8192_S8192_d1 h_S_ (ix1 r)
  have hij (j : Fin 8192) : (StableHlo.Predicate.ij ((ix1 r : S8192.Idx) 0) j) = ix2 r j :=
    funext fun k => by match k with | ⟨0, _⟩ => rfl | ⟨1, _⟩ => rfl
  have hs : (Finset.univ.filter fun j : Fin 8192 => mask (StableHlo.Predicate.ij ((ix1 r : S8192.Idx) 0) j) = 1#1)
      = Finset.univ.filter fun j : Fin 8192 => b (ix1 r) = b (ix1 j) :=
    Finset.filter_congr fun j _ =>
      have hj := (congrArg mask (hij j)).trans (hmask j)
      ⟨fun e => StableHlo.Predicate.cmpi_eq_iff.mp (hj.symm.trans e),
        fun e => hj.trans (StableHlo.Predicate.cmpi_eq_iff.mpr e)⟩
  rw [hs] at hc
  have hle : (Finset.univ.filter fun j : Fin 8192 => b (ix1 r) = b (ix1 j)).card ≤ 8192 :=
    (Finset.card_le_univ _).trans (by simp)
  have h30 : broadcastInDim S8192 ![] bcast_S_S8192 (constantI S_ 32 30#32) (ix1 r) = 30#32 :=
    StableHlo.Predicate.bcast_scalar _ h_S_ _ _
  have e' : IntOp.cmpi .sge (Host.reduce IntOp.addi (extui 32 mask natLt_1_32) (constantI S_ 32 0#32)
    reducesTo_S8192x8192_S8192_d1 h_S_ (ix1 r)) (broadcastInDim S8192 ![] bcast_S_S8192 (constantI S_ 32 30#32) (ix1 r)) = 1#1 := e
  rw [h30, StableHlo.Predicate.sge_iff_toNat (by omega) (by decide), hc] at e'
  exact e'

variable (a0 : FVec Ideal (Mat 8192 14) .f32) (a1 : IVec S8192 32) (a2 : FVec Ideal (Mat 28 64) .f32)
  (a3 : FVec Ideal S64 .f32) (a4 : FVec Ideal S64x64 .f32) (a5 : FVec Ideal S64 .f32) (a6 : FVec Ideal (Mat 128 64) .f32)
  (a7 : FVec Ideal S64 .f32) (a8 : FVec Ideal S64x64 .f32) (a9 : FVec Ideal S64 .f32) (a10 : FVec Ideal (Mat 128 64) .f32)
  (a11 : FVec Ideal S64 .f32) (a12 : FVec Ideal S64x64 .f32) (a13 : FVec Ideal S64 .f32) (a14 : FVec Ideal (Mat 192 1024) .f32)
  (a15 : FVec Ideal ⟨1, ![1024]⟩ .f32) (a16 : FVec Ideal (Mat 1024 256) .f32) (a17 : FVec Ideal ⟨1, ![256]⟩ .f32)
  (a18 : FVec Ideal (Mat 256 128) .f32) (a19 : FVec Ideal ⟨1, ![128]⟩ .f32) (a20 : FVec Ideal (Mat 128 64) .f32)
  (a21 : FVec Ideal ⟨1, ![64]⟩ .f32)

/-- The precondition, read. -/
theorem pre_read (h : fn (F := Ideal) a0 a1 a2 a3 a4 a5 a6 a7 a8 a9 a10 a11 a12 a13 a14 a15 a16 a17 a18 a19 a20 a21 = yes) :
    (inputsOf a0 a1 a2 a3 a4 a5 a6 a7 a8 a9 a10 a11 a12 a13 a14 a15 a16 a17 a18 a19 a20 a21).Real ∧ Full a1 := by
  unfold fn fn_part1 fn_part2 fn_part3 at h
  obtain ⟨h, hb⟩ := both h
  obtain ⟨h, h9⟩ := both h
  obtain ⟨h, h8⟩ := both h
  obtain ⟨h, h7⟩ := both h
  obtain ⟨h, h6⟩ := both h
  obtain ⟨h, h5⟩ := both h
  obtain ⟨h, h4⟩ := both h
  obtain ⟨h, h3⟩ := both h
  obtain ⟨h0, h2⟩ := both h
  exact ⟨⟨fun i j => real_of_all a0 _ _ _ h0 _, fun i j => real_of_all a2 _ _ _ h2 _, fun i => real_of_all a3 _ _ _ h3 _,
    fun i j => real_of_all a4 _ _ _ h4 _, fun i => real_of_all a5 _ _ _ h5 _, fun i j => real_of_all a6 _ _ _ h6 _,
    fun i => real_of_all a7 _ _ _ h7 _, fun i j => real_of_all a8 _ _ _ h8 _, fun i => real_of_all a9 _ _ _ h9 _⟩,
    full_of_all a1 hb⟩

end Cert.Dgcnn

end
-- ==== Proof.Frames.lean ====
/-
  THE RUNS THAT NAME NO VALUE. The kernel as printed, its idealization and the reference terminate, leave every
  argument array as it was and every semaphore counter at zero; and the one rewriting of the idealization, which reads the
  masking constant as infinity, is the rule's own statement.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Pre
public import Idealize.ShloMosaic.Lib.Quiescent
public import Idealize.ShloMosaic.Lib.Claim

@[expose] public section

noncomputable section

namespace Cert.Dgcnn

open Idealize.ShloMosaic Idealize.SL.Sem

/-- The kernel as printed runs. -/
theorem frame_kernel : Cert.quiescent_Kernel := fun m ρ _ => Cert.Kernel.Gen.frame m ρ

/-- The idealized kernel runs. -/
theorem frame_kernelIdeal : Cert.quiescent_KernelIdeal := fun m ρ _ => Cert.KernelIdeal.Gen.frame m ρ

/-- The reference runs: its run writes no argument, and it declares no semaphore. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run m ρ)

attribute [local instance] Cert.KernelIdeal.Gen.facts Cert.ReferenceIdeal.Gen.facts preFacts

/-- The idealized kernel runs, in particular, on the inputs of the value claim. -/
theorem frame_kernelIdeal_pre : Cert.quiescent_KernelIdeal_pre_groups_full := fun m ρ _ => frame_kernelIdeal m ρ trivial

/-- So does the reference. -/
theorem frame_referenceIdeal_pre : Cert.quiescent_ReferenceIdeal_pre_groups_full := fun m ρ _ => frame_referenceIdeal m ρ trivial

/-- The idealization is the kernel with one constant named. -/
theorem preserves_kernel : Cert.preserves_Kernel_KernelIdeal :=
  IdealRules.named_const.statement Cert.KernelIdeal.κ "big" .f32 0x7F61B1E6#32 ⊤ rfl

end Cert.Dgcnn
-- ==== Proof.KernelEnd.lean ====
/-
  THE KERNEL TERMINATES with its result array as the last call leaves it and every argument as it was.
-/
module

public import proofs.«01_k».proof.Proof.Gen.KernelIdeal.Frame

@[expose] public section

set_option maxRecDepth 16384

noncomputable section

namespace Cert.Dgcnn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run: the four calls and the host lines between them, from any memory. -/
theorem kernel_run : θ_run defs (onTc (τ := τ) (main (F := Ideal))) ⟨m, fun _ => 0, ρ⟩ (fun r => ∀ c : Dev nD,
      r.2.mem ((c.tc : Thread nD τ).loc main_v0) = W8 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => fun c =>
      ⟨h c _ (mem_uc main_v0 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c),
       (h c _ (mem_uc main_arg19 (by decide))).trans (W8_main_arg19 m ρ c),
       (h c _ (mem_uc main_arg20 (by decide))).trans (W8_main_arg20 m ρ c),
       (h c _ (mem_uc main_arg21 (by decide))).trans (W8_main_arg21 m ρ c)⟩)

end Cert.Dgcnn
-- ==== Proof.RefHead.lean ====
/-
  THE REFERENCE'S OUTPUT. Three convolutions, their features side by side, and four affine maps with cut-offs between them:
  on real inputs with full groups the reference program computes `Inputs.out`.
-/
module

public import proofs.«01_k».proof.Proof.RefRows

@[expose] public section

set_option maxRecDepth 16384

noncomputable section

namespace Cert.Dgcnn

open Idealize.ShloMosaic Idealize.ShloMosaic.TcCoe Idealize.SL.Sem
open Cert.ReferenceIdeal Cert.ReferenceIdeal.Gen

/-- The side conditions of repeating a row of `b` entries, and of filling a matrix of `b` columns. -/
structure Across (b : ℕ) : Prop where
  row : (⟨1, ![b]⟩ : Shape).BroadcastsInDim (Mat 1 b) ![1]
  all : (Mat 1 b).BroadcastsInDim (Mat 8192 b) ![0, 1]
  fill : S_.BroadcastsInDim (Mat 8192 b) ![]
  wide : b ≠ 1

theorem across1024 : Across 1024 := ⟨bcast_S1024_S1x1024_1, bcast_S1x1024_S8192x1024_0_1, bcast_S_S8192x1024, by decide⟩
theorem across256 : Across 256 := ⟨bcast_S256_S1x256_1, bcast_S1x256_S8192x256_0_1, bcast_S_S8192x256, by decide⟩
theorem across128 : Across 128 := ⟨bcast_S128_S1x128_1, bcast_S1x128_S8192x128_0_1, bcast_S_S8192x128, by decide⟩
theorem across64 : Across 64 := ⟨bcast_S64_S1x64_1, bcast_S1x64_S8192x64_0_1, by decide, by decide⟩

variable {a b : ℕ} (h : Across b)

/-- An affine map of every row. -/
def refAffine (v : FVec Ideal (Mat 8192 a) .f32) (W : FVec Ideal (Mat a b) .f32) (bias : FVec Ideal ⟨1, ![b]⟩ .f32) :
    FVec Ideal (Mat 8192 b) .f32 :=
  addf (Host.dotGeneral (DotDims.plain 8192 a b) none v W)
    (broadcastInDim (Mat 8192 b) ![0, 1] h.all (broadcastInDim (Mat 1 b) ![1] h.row bias))

/-- The cut-off below at zero. -/
def refRelu (v : FVec Ideal (Mat 8192 b) .f32) : FVec Ideal (Mat 8192 b) .f32 :=
  maximumf v (broadcastInDim (Mat 8192 b) ![] h.fill (constant S_ .f32 0x00000000#32))

/-- Three feature arrays side by side. -/
def refBeside (x y z : FVec Ideal S8192x64 .f32) : FVec Ideal S8192x192 .f32 :=
  concatenate S8192x192 1 [⟨S8192x64, x⟩, ⟨S8192x64, y⟩, ⟨S8192x64, z⟩]
    concatenates_S8192x64_S8192x64_S8192x64_S8192x192_d1

theorem refAffine_mat (g : Fin 8192 → Fin a → EReal) (W : FVec Ideal (Mat a b) .f32) (bias : FVec Ideal ⟨1, ![b]⟩ .f32) :
    refAffine h (mat g) W bias = mat fun r => dense (ent W) (ent1 bias) (g r) := by
  funext i
  obtain ⟨r, c, rfl⟩ : ∃ (r : Fin 8192) (c : Fin b), i = ix2 r c := ⟨i 0, i 1, by
    funext k; match k with | ⟨0, _⟩ => rfl | ⟨1, _⟩ => rfl⟩
  have hd : Host.dotGeneral (DotDims.plain 8192 a b) none (mat g) W (ix2 r c) = ∑ k, g r k * W (ix2 k c) := by
    rw [ix2_eq_valueIdx, StackMember.dotGeneral_plain_apply]
    simp only [← ix2_eq_valueIdx]
    rfl
  have hb : broadcastInDim (Mat 8192 b) ![0, 1] h.all (broadcastInDim (Mat 1 b) ![1] h.row bias) (ix2 r c) = bias (ix1 c) := by
    pointwise
    exact congrArg (fun t : Fin b => bias (ix1 t)) ((dif_neg h.wide).trans (dif_neg h.wide))
  show Host.dotGeneral (DotDims.plain 8192 a b) none (mat g) W (ix2 r c)
    + broadcastInDim (Mat 8192 b) ![0, 1] h.all (broadcastInDim (Mat 1 b) ![1] h.row bias) (ix2 r c) = _
  rw [hd, hb]
  rfl

theorem refRelu_mat (g : Fin 8192 → Fin b → EReal) : refRelu h (mat g) = mat fun r => relu (g r) := by
  funext i
  show max (mat g i) (Ideal.ofBits .f32 0x00000000#32) = max (g (i 0) (i 1)) 0
  rw [Ideal.ofBits_zero_f32]

theorem beside_first (x y z : FVec Ideal S8192x64 .f32) (r : Fin 8192) (k : Fin 64) :
    refBeside x y z (ix2 r ⟨k, by omega⟩) = x (ix2 r k) := by
  unfold refBeside
  pointwise

theorem beside_second (x y z : FVec Ideal S8192x64 .f32) (r : Fin 8192) (k : Fin 64) :
    refBeside x y z (ix2 r ⟨64 + k, by omega⟩) = y (ix2 r k) := by
  unfold refBeside
  pointwise

theorem beside_third (x y z : FVec Ideal S8192x64 .f32) (r : Fin 8192) (k : Fin 64) :
    refBeside x y z (ix2 r ⟨128 + k, by omega⟩) = z (ix2 r k) := by
  unfold refBeside
  pointwise
  rw [dif_neg (by omega), dif_neg (by omega)]
  congr 3
  omega

/-- A sum over 192 entries, third by third. -/
theorem sum_thirds (g : Fin 192 → EReal) : ∑ k, g k
    = ∑ k : Fin 64, g ⟨k, by omega⟩ + ∑ k : Fin 64, g ⟨64 + k, by omega⟩ + ∑ k : Fin 64, g ⟨128 + k, by omega⟩ :=
  (Fin.sum_univ_add (a := 128) (b := 64) g).trans
    (congrArg (· + _) (Fin.sum_univ_add (a := 64) (b := 64) fun k => g (Fin.castAdd 64 k)))

/-- The first affine map reads the three feature arrays with their own parts of the weights. -/
theorem refBeside_mat (x y z : Fin 8192 → Fin 64 → EReal) (W : FVec Ideal (Mat 192 1024) .f32)
    (bias : FVec Ideal ⟨1, ![1024]⟩ .f32) :
    refAffine across1024 (refBeside (mat x) (mat y) (mat z)) W bias = mat fun r c =>
      ∑ k : Fin 64, x r k * ent W ⟨k, by omega⟩ c + ∑ k : Fin 64, y r k * ent W ⟨64 + k, by omega⟩ c
        + ∑ k : Fin 64, z r k * ent W ⟨128 + k, by omega⟩ c + ent1 bias c := by
  have hg : refBeside (mat x) (mat y) (mat z) = mat fun r k => refBeside (mat x) (mat y) (mat z) (ix2 r k) := by
    funext i
    exact congrArg _ (by funext k; match k with | ⟨0, _⟩ => rfl | ⟨1, _⟩ => rfl)
  rw [hg, refAffine_mat]
  refine congrArg mat (funext fun r => funext fun c => ?_)
  unfold dense
  rw [sum_thirds]
  simp only [beside_first, beside_second, beside_third]
  rfl

variable (a0 : FVec Ideal (Mat 8192 14) .f32) (a1 : IVec S8192 32) (a2 : FVec Ideal (Mat 28 64) .f32)
  (a3 : FVec Ideal S64 .f32) (a4 : FVec Ideal S64x64 .f32) (a5 : FVec Ideal S64 .f32) (a6 : FVec Ideal (Mat 128 64) .f32)
  (a7 : FVec Ideal S64 .f32) (a8 : FVec Ideal S64x64 .f32) (a9 : FVec Ideal S64 .f32) (a10 : FVec Ideal (Mat 128 64) .f32)
  (a11 : FVec Ideal S64 .f32) (a12 : FVec Ideal S64x64 .f32) (a13 : FVec Ideal S64 .f32) (a14 : FVec Ideal (Mat 192 1024) .f32)
  (a15 : FVec Ideal ⟨1, ![1024]⟩ .f32) (a16 : FVec Ideal (Mat 1024 256) .f32) (a17 : FVec Ideal ⟨1, ![256]⟩ .f32)
  (a18 : FVec Ideal (Mat 256 128) .f32) (a19 : FVec Ideal ⟨1, ![128]⟩ .f32) (a20 : FVec Ideal (Mat 128 64) .f32)
  (a21 : FVec Ideal ⟨1, ![64]⟩ .f32)

/-- The head of the reference program, over its three convolutions. -/
theorem ref_head : Read.val_main_v124 (F := Ideal) a0 a1 a2 a3 a4 a5 a6 a7 a8 a9 a10 a11 a12 a13 a14 a15 a16 a17 a18 a19 a20 a21
    = refAffine across64 (refRelu across128 (refAffine across128 (refRelu across256 (refAffine across256
        (refRelu across1024 (refAffine across1024 (refBeside (Read.val_main_v34 (F := Ideal) a0 a1 a2 a3 a4 a5)
          (Read.val_main_v69 (F := Ideal) a0 a1 a2 a3 a4 a5 a6 a7 a8 a9)
          (Read.val_main_v104 (F := Ideal) a0 a1 a2 a3 a4 a5 a6 a7 a8 a9 a10 a11 a12 a13)) a14 a15)) a16 a17)) a18 a19)) a20 a21 := by
  sl_kernel_rfl

/-- The reference program's result. -/
theorem ref_out (hI : (inputsOf a0 a1 a2 a3 a4 a5 a6 a7 a8 a9 a10 a11 a12 a13 a14 a15 a16 a17 a18 a19 a20 a21).Real)
    (hb : Full a1) :
    Read.val_main_v124 (F := Ideal) a0 a1 a2 a3 a4 a5 a6 a7 a8 a9 a10 a11 a12 a13 a14 a15 a16 a17 a18 a19 a20 a21
      = mat (inputsOf a0 a1 a2 a3 a4 a5 a6 a7 a8 a9 a10 a11 a12 a13 a14 a15 a16 a17 a18 a19 a20 a21).out := by
  set I := inputsOf a0 a1 a2 a3 a4 a5 a6 a7 a8 a9 a10 a11 a12 a13 a14 a15 a16 a17 a18 a19 a20 a21 with hIdef
  have e1 : Read.val_main_v34 (F := Ideal) a0 a1 a2 a3 a4 a5 = mat I.x1 := by
    rw [ref_layer1, refLayer_eq width14 a0 hI.X a1 hb]
    rfl
  have e2 : Read.val_main_v69 (F := Ideal) a0 a1 a2 a3 a4 a5 a6 a7 a8 a9 = mat I.x2 := by
    rw [ref_layer2, e1, refLayer_eq width64 (mat I.x1) hI.x1 a1 hb]
    rfl
  have e3 : Read.val_main_v104 (F := Ideal) a0 a1 a2 a3 a4 a5 a6 a7 a8 a9 a10 a11 a12 a13 = mat I.x3 := by
    rw [ref_layer3, e2, refLayer_eq width64 (mat I.x2) hI.x2 a1 hb]
    rfl
  rw [ref_head, e1, e2, e3, refBeside_mat, refRelu_mat, refAffine_mat, refRelu_mat, refAffine_mat, refRelu_mat,
    refAffine_mat]
  rfl

end Cert.Dgcnn

end
-- ==== Proof.Algebraic.lean ====
/-
  THE VALUE. On real inputs with full groups, the idealized kernel and the reference leave one and the same array: the network's
  output, `Inputs.out`.
-/
module

public import proofs.«01_k».proof.Defs
public import proofs.«01_k».proof.Proof.KernelEnd
public import proofs.«01_k».proof.Proof.RefHead
public import proofs.«01_k».proof.Proof.Pre
public import proofs.«01_k».proof.Proof.Gen.ReferenceIdeal.Run

@[expose] public section

set_option maxRecDepth 16384

noncomputable section

namespace Cert.Dgcnn

open Idealize.ShloMosaic Idealize.ShloMosaic.TcCoe Idealize.SL.Sem

attribute [local instance] Cert.KernelIdeal.Gen.facts Cert.ReferenceIdeal.Gen.facts preFacts

/-- Both programs compute the network's output. -/
theorem algebraic : Cert.algebraic_KernelIdeal_ReferenceIdeal_pre_groups_full := by
  intro m g m' g' hpre hagree
  refine ⟨fun c => mat (inputs m c).out, ?_, ?_⟩
  · exact (θ_run Cert.KernelIdeal.defs _ _).mono
      (fun r h c => ⟨(h c).1.trans (W8_result m g c (pre_read _ _ _ _ _ _ _ _ _ _ _ _ _ _ _ _ _ _ _ _ _ _ (hpre c)).1), (h c).2⟩)
      (kernel_run m g)
  · refine (θ_run Cert.ReferenceIdeal.defs _ _).mono
      (fun r h c => ⟨(h c).1.trans ((Cert.ReferenceIdeal.Read.val_main_v124_eq (StableHlo.launchContents m' c)).trans ?_), (h c).2⟩)
      (Cert.ReferenceIdeal.Value.run m' g')
    obtain ⟨h0, h1, h2, h3, h4, h5, h6, h7, h8, h9, h10, h11, h12, h13, h14, h15, h16, h17, h18, h19, h20, h21⟩ := hagree c
    have hp := pre_read _ _ _ _ _ _ _ _ _ _ _ _ _ _ _ _ _ _ _ _ _ _ (hpre c)
    refine Eq.trans ?_ (ref_out _ _ _ _ _ _ _ _ _ _ _ _ _ _ _ _ _ _ _ _ _ _ hp.1 hp.2)
    congr 1

end Cert.Dgcnn

end
-- ==== Proof.lean ====
/-
  THE CERTIFICATE. `Cert.Claim` (proofs.«01_k».proof.Defs) from the modules under Proof/, each claim by its own theorem.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Algebraic

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Dgcnn.preFacts,
    Cert.Dgcnn.frame_kernel, Cert.Dgcnn.frame_kernelIdeal, Cert.Dgcnn.frame_kernelIdeal_pre, Cert.Dgcnn.frame_referenceIdeal,
    Cert.Dgcnn.frame_referenceIdeal_pre, Cert.Dgcnn.preserves_kernel, Cert.Dgcnn.algebraic⟩

end Cert.Proof

end
